-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_ExpDown (m : (ℓ : Loc Cert.ExpDown.nD Cert.ExpDown.τ Cert.ExpDown.sig) → Buf (Elt Bits) ℓ) : Prop :=
  True

def Pre_ExpDownIdeal (m : (ℓ : Loc Cert.ExpDownIdeal.nD Cert.ExpDownIdeal.τ Cert.ExpDownIdeal.sig) → Buf (Elt Ideal) ℓ) : Prop :=
  True

def Pre_ExpDownRefIdeal (m : (ℓ : Loc Cert.ExpDownRefIdeal.nD Cert.ExpDownRefIdeal.τ Cert.ExpDownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_ExpUp (m : (ℓ : Loc Cert.ExpUp.nD Cert.ExpUp.τ Cert.ExpUp.sig) → Buf (Elt Bits) ℓ) : Prop :=
  True

def Pre_ExpUpIdeal (m : (ℓ : Loc Cert.ExpUpIdeal.nD Cert.ExpUpIdeal.τ Cert.ExpUpIdeal.sig) → Buf (Elt Ideal) ℓ) : Prop :=
  True

def Pre_ExpUpRefIdeal (m : (ℓ : Loc Cert.ExpUpRefIdeal.nD Cert.ExpUpRefIdeal.τ Cert.ExpUpRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_ExpDown [hExpDown : Cert.ExpDown.Facts] : Prop :=
  ∀ (m : (ℓ : Loc Cert.ExpDown.nD Cert.ExpDown.τ Cert.ExpDown.sig) → Buf (Elt Bits) ℓ) (g : Dev Cert.ExpDown.nD → PrngReg), Pre_ExpDown m →
    θ_run (Cert.ExpDown.defs (F := Bits)) (onTc (τ := Cert.ExpDown.τ) (Cert.ExpDown.main (F := Bits))) ⟨m, fun _ => 0, g⟩ (fun r => (∀ c : Dev Cert.ExpDown.nD,
      r.2.mem ((c.tc : Thread Cert.ExpDown.nD Cert.ExpDown.τ).loc Cert.ExpDown.main_arg0) = m ((c.tc : Thread Cert.ExpDown.nD Cert.ExpDown.τ).loc Cert.ExpDown.main_arg0)
      ∧ r.2.mem ((c.tc : Thread Cert.ExpDown.nD Cert.ExpDown.τ).loc Cert.ExpDown.main_arg1) = m ((c.tc : Thread Cert.ExpDown.nD Cert.ExpDown.τ).loc Cert.ExpDown.main_arg1)
      ∧ r.2.mem ((c.tc : Thread Cert.ExpDown.nD Cert.ExpDown.τ).loc Cert.ExpDown.main_arg2) = m ((c.tc : Thread Cert.ExpDown.nD Cert.ExpDown.τ).loc Cert.ExpDown.main_arg2))
      ∧ r.2.sem = fun _ => 0)

def quiescent_ExpDownIdeal [hExpDownIdeal : Cert.ExpDownIdeal.Facts] : Prop :=
  ∀ (m : (ℓ : Loc Cert.ExpDownIdeal.nD Cert.ExpDownIdeal.τ Cert.ExpDownIdeal.sig) → Buf (Elt Ideal) ℓ) (g : Dev Cert.ExpDownIdeal.nD → PrngReg), Pre_ExpDownIdeal m →
    θ_run (Cert.ExpDownIdeal.defs (F := Ideal)) (onTc (τ := Cert.ExpDownIdeal.τ) (Cert.ExpDownIdeal.main (F := Ideal))) ⟨m, fun _ => 0, g⟩ (fun r => (∀ c : Dev Cert.ExpDownIdeal.nD,
      r.2.mem ((c.tc : Thread Cert.ExpDownIdeal.nD Cert.ExpDownIdeal.τ).loc Cert.ExpDownIdeal.main_arg0) = m ((c.tc : Thread Cert.ExpDownIdeal.nD Cert.ExpDownIdeal.τ).loc Cert.ExpDownIdeal.main_arg0)
      ∧ r.2.mem ((c.tc : Thread Cert.ExpDownIdeal.nD Cert.ExpDownIdeal.τ).loc Cert.ExpDownIdeal.main_arg1) = m ((c.tc : Thread Cert.ExpDownIdeal.nD Cert.ExpDownIdeal.τ).loc Cert.ExpDownIdeal.main_arg1)
      ∧ r.2.mem ((c.tc : Thread Cert.ExpDownIdeal.nD Cert.ExpDownIdeal.τ).loc Cert.ExpDownIdeal.main_arg2) = m ((c.tc : Thread Cert.ExpDownIdeal.nD Cert.ExpDownIdeal.τ).loc Cert.ExpDownIdeal.main_arg2))
      ∧ r.2.sem = fun _ => 0)

def quiescent_ExpDownRefIdeal [hExpDownRefIdeal : Cert.ExpDownRefIdeal.Facts] : Prop :=
  ∀ (m : (ℓ : Loc Cert.ExpDownRefIdeal.nD Cert.ExpDownRefIdeal.τ Cert.ExpDownRefIdeal.sig) → Buf (Elt Ideal) ℓ) (g : Dev Cert.ExpDownRefIdeal.nD → PrngReg), Pre_ExpDownRefIdeal m →
    θ_run (Cert.ExpDownRefIdeal.defs (F := Ideal)) (onTc (τ := Cert.ExpDownRefIdeal.τ) (Cert.ExpDownRefIdeal.main (F := Ideal))) ⟨m, fun _ => 0, g⟩ (fun r => (∀ c : Dev Cert.ExpDownRefIdeal.nD,
      r.2.mem ((c.tc : Thread Cert.ExpDownRefIdeal.nD Cert.ExpDownRefIdeal.τ).loc Cert.ExpDownRefIdeal.main_arg0) = m ((c.tc : Thread Cert.ExpDownRefIdeal.nD Cert.ExpDownRefIdeal.τ).loc Cert.ExpDownRefIdeal.main_arg0)
      ∧ r.2.mem ((c.tc : Thread Cert.ExpDownRefIdeal.nD Cert.ExpDownRefIdeal.τ).loc Cert.ExpDownRefIdeal.main_arg1) = m ((c.tc : Thread Cert.ExpDownRefIdeal.nD Cert.ExpDownRefIdeal.τ).loc Cert.ExpDownRefIdeal.main_arg1)
      ∧ r.2.mem ((c.tc : Thread Cert.ExpDownRefIdeal.nD Cert.ExpDownRefIdeal.τ).loc Cert.ExpDownRefIdeal.main_arg2) = m ((c.tc : Thread Cert.ExpDownRefIdeal.nD Cert.ExpDownRefIdeal.τ).loc Cert.ExpDownRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_ExpUp [hExpUp : Cert.ExpUp.Facts] : Prop :=
  ∀ (m : (ℓ : Loc Cert.ExpUp.nD Cert.ExpUp.τ Cert.ExpUp.sig) → Buf (Elt Bits) ℓ) (g : Dev Cert.ExpUp.nD → PrngReg), Pre_ExpUp m →
    θ_run (Cert.ExpUp.defs (F := Bits)) (onTc (τ := Cert.ExpUp.τ) (Cert.ExpUp.main (F := Bits))) ⟨m, fun _ => 0, g⟩ (fun r => (∀ c : Dev Cert.ExpUp.nD,
      r.2.mem ((c.tc : Thread Cert.ExpUp.nD Cert.ExpUp.τ).loc Cert.ExpUp.main_arg0) = m ((c.tc : Thread Cert.ExpUp.nD Cert.ExpUp.τ).loc Cert.ExpUp.main_arg0)
      ∧ r.2.mem ((c.tc : Thread Cert.ExpUp.nD Cert.ExpUp.τ).loc Cert.ExpUp.main_arg1) = m ((c.tc : Thread Cert.ExpUp.nD Cert.ExpUp.τ).loc Cert.ExpUp.main_arg1)
      ∧ r.2.mem ((c.tc : Thread Cert.ExpUp.nD Cert.ExpUp.τ).loc Cert.ExpUp.main_arg2) = m ((c.tc : Thread Cert.ExpUp.nD Cert.ExpUp.τ).loc Cert.ExpUp.main_arg2))
      ∧ r.2.sem = fun _ => 0)

def quiescent_ExpUpIdeal [hExpUpIdeal : Cert.ExpUpIdeal.Facts] : Prop :=
  ∀ (m : (ℓ : Loc Cert.ExpUpIdeal.nD Cert.ExpUpIdeal.τ Cert.ExpUpIdeal.sig) → Buf (Elt Ideal) ℓ) (g : Dev Cert.ExpUpIdeal.nD → PrngReg), Pre_ExpUpIdeal m →
    θ_run (Cert.ExpUpIdeal.defs (F := Ideal)) (onTc (τ := Cert.ExpUpIdeal.τ) (Cert.ExpUpIdeal.main (F := Ideal))) ⟨m, fun _ => 0, g⟩ (fun r => (∀ c : Dev Cert.ExpUpIdeal.nD,
      r.2.mem ((c.tc : Thread Cert.ExpUpIdeal.nD Cert.ExpUpIdeal.τ).loc Cert.ExpUpIdeal.main_arg0) = m ((c.tc : Thread Cert.ExpUpIdeal.nD Cert.ExpUpIdeal.τ).loc Cert.ExpUpIdeal.main_arg0)
      ∧ r.2.mem ((c.tc : Thread Cert.ExpUpIdeal.nD Cert.ExpUpIdeal.τ).loc Cert.ExpUpIdeal.main_arg1) = m ((c.tc : Thread Cert.ExpUpIdeal.nD Cert.ExpUpIdeal.τ).loc Cert.ExpUpIdeal.main_arg1)
      ∧ r.2.mem ((c.tc : Thread Cert.ExpUpIdeal.nD Cert.ExpUpIdeal.τ).loc Cert.ExpUpIdeal.main_arg2) = m ((c.tc : Thread Cert.ExpUpIdeal.nD Cert.ExpUpIdeal.τ).loc Cert.ExpUpIdeal.main_arg2))
      ∧ r.2.sem = fun _ => 0)

def quiescent_ExpUpRefIdeal [hExpUpRefIdeal : Cert.ExpUpRefIdeal.Facts] : Prop :=
  ∀ (m : (ℓ : Loc Cert.ExpUpRefIdeal.nD Cert.ExpUpRefIdeal.τ Cert.ExpUpRefIdeal.sig) → Buf (Elt Ideal) ℓ) (g : Dev Cert.ExpUpRefIdeal.nD → PrngReg), Pre_ExpUpRefIdeal m →
    θ_run (Cert.ExpUpRefIdeal.defs (F := Ideal)) (onTc (τ := Cert.ExpUpRefIdeal.τ) (Cert.ExpUpRefIdeal.main (F := Ideal))) ⟨m, fun _ => 0, g⟩ (fun r => (∀ c : Dev Cert.ExpUpRefIdeal.nD,
      r.2.mem ((c.tc : Thread Cert.ExpUpRefIdeal.nD Cert.ExpUpRefIdeal.τ).loc Cert.ExpUpRefIdeal.main_arg0) = m ((c.tc : Thread Cert.ExpUpRefIdeal.nD Cert.ExpUpRefIdeal.τ).loc Cert.ExpUpRefIdeal.main_arg0)
      ∧ r.2.mem ((c.tc : Thread Cert.ExpUpRefIdeal.nD Cert.ExpUpRefIdeal.τ).loc Cert.ExpUpRefIdeal.main_arg1) = m ((c.tc : Thread Cert.ExpUpRefIdeal.nD Cert.ExpUpRefIdeal.τ).loc Cert.ExpUpRefIdeal.main_arg1)
      ∧ r.2.mem ((c.tc : Thread Cert.ExpUpRefIdeal.nD Cert.ExpUpRefIdeal.τ).loc Cert.ExpUpRefIdeal.main_arg2) = m ((c.tc : Thread Cert.ExpUpRefIdeal.nD Cert.ExpUpRefIdeal.τ).loc Cert.ExpUpRefIdeal.main_arg2))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v31)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v31) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v113) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_ExpDown_ExpDownIdeal : Prop :=
  True

def algebraic_ExpDownIdeal_ExpDownRefIdeal [hExpDownIdeal : Cert.ExpDownIdeal.Facts] [hExpDownRefIdeal : Cert.ExpDownRefIdeal.Facts] : Prop :=
  ∀ (m : (ℓ : Loc Cert.ExpDownIdeal.nD Cert.ExpDownIdeal.τ Cert.ExpDownIdeal.sig) → Buf (Elt Ideal) ℓ) (g : Dev Cert.ExpDownIdeal.nD → PrngReg)
    (m' : (ℓ : Loc Cert.ExpDownRefIdeal.nD Cert.ExpDownRefIdeal.τ Cert.ExpDownRefIdeal.sig) → Buf (Elt Ideal) ℓ) (g' : Dev Cert.ExpDownRefIdeal.nD → PrngReg), Pre_ExpDownIdeal m →
    (∀ c : Dev Cert.ExpDownIdeal.nD,
      m' ((c.tc : Thread Cert.ExpDownRefIdeal.nD Cert.ExpDownRefIdeal.τ).loc Cert.ExpDownRefIdeal.main_arg0) = m ((c.tc : Thread Cert.ExpDownIdeal.nD Cert.ExpDownIdeal.τ).loc Cert.ExpDownIdeal.main_arg0)
      ∧ m' ((c.tc : Thread Cert.ExpDownRefIdeal.nD Cert.ExpDownRefIdeal.τ).loc Cert.ExpDownRefIdeal.main_arg1) = m ((c.tc : Thread Cert.ExpDownIdeal.nD Cert.ExpDownIdeal.τ).loc Cert.ExpDownIdeal.main_arg1)
      ∧ m' ((c.tc : Thread Cert.ExpDownRefIdeal.nD Cert.ExpDownRefIdeal.τ).loc Cert.ExpDownRefIdeal.main_arg2) = m ((c.tc : Thread Cert.ExpDownIdeal.nD Cert.ExpDownIdeal.τ).loc Cert.ExpDownIdeal.main_arg2)) →
    ∃ (v0 : (c : Dev Cert.ExpDownIdeal.nD) → Buf (Elt Ideal) ((c.tc : Thread Cert.ExpDownIdeal.nD Cert.ExpDownIdeal.τ).loc Cert.ExpDownIdeal.main_v0)),
      θ_run (Cert.ExpDownIdeal.defs (F := Ideal)) (onTc (τ := Cert.ExpDownIdeal.τ) (Cert.ExpDownIdeal.main (F := Ideal))) ⟨m, fun _ => 0, g⟩ (fun r => ∀ c : Dev Cert.ExpDownIdeal.nD,
          r.2.mem ((c.tc : Thread Cert.ExpDownIdeal.nD Cert.ExpDownIdeal.τ).loc Cert.ExpDownIdeal.main_v0) = v0 c
          ∧ r.2.mem ((c.tc : Thread Cert.ExpDownIdeal.nD Cert.ExpDownIdeal.τ).loc Cert.ExpDownIdeal.main_arg0) = m ((c.tc : Thread Cert.ExpDownIdeal.nD Cert.ExpDownIdeal.τ).loc Cert.ExpDownIdeal.main_arg0)
          ∧ r.2.mem ((c.tc : Thread Cert.ExpDownIdeal.nD Cert.ExpDownIdeal.τ).loc Cert.ExpDownIdeal.main_arg1) = m ((c.tc : Thread Cert.ExpDownIdeal.nD Cert.ExpDownIdeal.τ).loc Cert.ExpDownIdeal.main_arg1)
          ∧ r.2.mem ((c.tc : Thread Cert.ExpDownIdeal.nD Cert.ExpDownIdeal.τ).loc Cert.ExpDownIdeal.main_arg2) = m ((c.tc : Thread Cert.ExpDownIdeal.nD Cert.ExpDownIdeal.τ).loc Cert.ExpDownIdeal.main_arg2))
      ∧ θ_run (Cert.ExpDownRefIdeal.defs (F := Ideal)) (onTc (τ := Cert.ExpDownRefIdeal.τ) (Cert.ExpDownRefIdeal.main (F := Ideal))) ⟨m', fun _ => 0, g'⟩ (fun r => ∀ c : Dev Cert.ExpDownRefIdeal.nD,
          r.2.mem ((c.tc : Thread Cert.ExpDownRefIdeal.nD Cert.ExpDownRefIdeal.τ).loc Cert.ExpDownRefIdeal.main_v5) = v0 c
          ∧ r.2.mem ((c.tc : Thread Cert.ExpDownRefIdeal.nD Cert.ExpDownRefIdeal.τ).loc Cert.ExpDownRefIdeal.main_arg0) = m' ((c.tc : Thread Cert.ExpDownRefIdeal.nD Cert.ExpDownRefIdeal.τ).loc Cert.ExpDownRefIdeal.main_arg0)
          ∧ r.2.mem ((c.tc : Thread Cert.ExpDownRefIdeal.nD Cert.ExpDownRefIdeal.τ).loc Cert.ExpDownRefIdeal.main_arg1) = m' ((c.tc : Thread Cert.ExpDownRefIdeal.nD Cert.ExpDownRefIdeal.τ).loc Cert.ExpDownRefIdeal.main_arg1)
          ∧ r.2.mem ((c.tc : Thread Cert.ExpDownRefIdeal.nD Cert.ExpDownRefIdeal.τ).loc Cert.ExpDownRefIdeal.main_arg2) = m' ((c.tc : Thread Cert.ExpDownRefIdeal.nD Cert.ExpDownRefIdeal.τ).loc Cert.ExpDownRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v47) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_ExpUp_ExpUpIdeal : Prop :=
  True

def algebraic_ExpUpIdeal_ExpUpRefIdeal [hExpUpIdeal : Cert.ExpUpIdeal.Facts] [hExpUpRefIdeal : Cert.ExpUpRefIdeal.Facts] : Prop :=
  ∀ (m : (ℓ : Loc Cert.ExpUpIdeal.nD Cert.ExpUpIdeal.τ Cert.ExpUpIdeal.sig) → Buf (Elt Ideal) ℓ) (g : Dev Cert.ExpUpIdeal.nD → PrngReg)
    (m' : (ℓ : Loc Cert.ExpUpRefIdeal.nD Cert.ExpUpRefIdeal.τ Cert.ExpUpRefIdeal.sig) → Buf (Elt Ideal) ℓ) (g' : Dev Cert.ExpUpRefIdeal.nD → PrngReg), Pre_ExpUpIdeal m →
    (∀ c : Dev Cert.ExpUpIdeal.nD,
      m' ((c.tc : Thread Cert.ExpUpRefIdeal.nD Cert.ExpUpRefIdeal.τ).loc Cert.ExpUpRefIdeal.main_arg0) = m ((c.tc : Thread Cert.ExpUpIdeal.nD Cert.ExpUpIdeal.τ).loc Cert.ExpUpIdeal.main_arg0)
      ∧ m' ((c.tc : Thread Cert.ExpUpRefIdeal.nD Cert.ExpUpRefIdeal.τ).loc Cert.ExpUpRefIdeal.main_arg1) = m ((c.tc : Thread Cert.ExpUpIdeal.nD Cert.ExpUpIdeal.τ).loc Cert.ExpUpIdeal.main_arg1)
      ∧ m' ((c.tc : Thread Cert.ExpUpRefIdeal.nD Cert.ExpUpRefIdeal.τ).loc Cert.ExpUpRefIdeal.main_arg2) = m ((c.tc : Thread Cert.ExpUpIdeal.nD Cert.ExpUpIdeal.τ).loc Cert.ExpUpIdeal.main_arg2)) →
    ∃ (v0 : (c : Dev Cert.ExpUpIdeal.nD) → Buf (Elt Ideal) ((c.tc : Thread Cert.ExpUpIdeal.nD Cert.ExpUpIdeal.τ).loc Cert.ExpUpIdeal.main_v0)),
      θ_run (Cert.ExpUpIdeal.defs (F := Ideal)) (onTc (τ := Cert.ExpUpIdeal.τ) (Cert.ExpUpIdeal.main (F := Ideal))) ⟨m, fun _ => 0, g⟩ (fun r => ∀ c : Dev Cert.ExpUpIdeal.nD,
          r.2.mem ((c.tc : Thread Cert.ExpUpIdeal.nD Cert.ExpUpIdeal.τ).loc Cert.ExpUpIdeal.main_v0) = v0 c
          ∧ r.2.mem ((c.tc : Thread Cert.ExpUpIdeal.nD Cert.ExpUpIdeal.τ).loc Cert.ExpUpIdeal.main_arg0) = m ((c.tc : Thread Cert.ExpUpIdeal.nD Cert.ExpUpIdeal.τ).loc Cert.ExpUpIdeal.main_arg0)
          ∧ r.2.mem ((c.tc : Thread Cert.ExpUpIdeal.nD Cert.ExpUpIdeal.τ).loc Cert.ExpUpIdeal.main_arg1) = m ((c.tc : Thread Cert.ExpUpIdeal.nD Cert.ExpUpIdeal.τ).loc Cert.ExpUpIdeal.main_arg1)
          ∧ r.2.mem ((c.tc : Thread Cert.ExpUpIdeal.nD Cert.ExpUpIdeal.τ).loc Cert.ExpUpIdeal.main_arg2) = m ((c.tc : Thread Cert.ExpUpIdeal.nD Cert.ExpUpIdeal.τ).loc Cert.ExpUpIdeal.main_arg2))
      ∧ θ_run (Cert.ExpUpRefIdeal.defs (F := Ideal)) (onTc (τ := Cert.ExpUpRefIdeal.τ) (Cert.ExpUpRefIdeal.main (F := Ideal))) ⟨m', fun _ => 0, g'⟩ (fun r => ∀ c : Dev Cert.ExpUpRefIdeal.nD,
          r.2.mem ((c.tc : Thread Cert.ExpUpRefIdeal.nD Cert.ExpUpRefIdeal.τ).loc Cert.ExpUpRefIdeal.main_v5) = v0 c
          ∧ r.2.mem ((c.tc : Thread Cert.ExpUpRefIdeal.nD Cert.ExpUpRefIdeal.τ).loc Cert.ExpUpRefIdeal.main_arg0) = m' ((c.tc : Thread Cert.ExpUpRefIdeal.nD Cert.ExpUpRefIdeal.τ).loc Cert.ExpUpRefIdeal.main_arg0)
          ∧ r.2.mem ((c.tc : Thread Cert.ExpUpRefIdeal.nD Cert.ExpUpRefIdeal.τ).loc Cert.ExpUpRefIdeal.main_arg1) = m' ((c.tc : Thread Cert.ExpUpRefIdeal.nD Cert.ExpUpRefIdeal.τ).loc Cert.ExpUpRefIdeal.main_arg1)
          ∧ r.2.mem ((c.tc : Thread Cert.ExpUpRefIdeal.nD Cert.ExpUpRefIdeal.τ).loc Cert.ExpUpRefIdeal.main_arg2) = m' ((c.tc : Thread Cert.ExpUpRefIdeal.nD Cert.ExpUpRefIdeal.τ).loc Cert.ExpUpRefIdeal.main_arg2))

def Claim : Prop :=
  ∃ (hInProj : Cert.InProj.Facts) (hInProjIdeal : Cert.InProjIdeal.Facts) (hInProjRefIdeal : Cert.InProjRefIdeal.Facts) (hExpDown : Cert.ExpDown.Facts) (hExpDownIdeal : Cert.ExpDownIdeal.Facts) (hExpDownRefIdeal : Cert.ExpDownRefIdeal.Facts) (hMerge : Cert.Merge.Facts) (hMergeIdeal : Cert.MergeIdeal.Facts) (hMergeRefIdeal : Cert.MergeRefIdeal.Facts) (hExpUp : Cert.ExpUp.Facts) (hExpUpIdeal : Cert.ExpUpIdeal.Facts) (hExpUpRefIdeal : Cert.ExpUpRefIdeal.Facts),
    quiescent_InProj (hInProj := hInProj)
    ∧ quiescent_InProjIdeal (hInProjIdeal := hInProjIdeal)
    ∧ quiescent_InProjRefIdeal (hInProjRefIdeal := hInProjRefIdeal)
    ∧ quiescent_ExpDown (hExpDown := hExpDown)
    ∧ quiescent_ExpDownIdeal (hExpDownIdeal := hExpDownIdeal)
    ∧ quiescent_ExpDownRefIdeal (hExpDownRefIdeal := hExpDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_ExpUp (hExpUp := hExpUp)
    ∧ quiescent_ExpUpIdeal (hExpUpIdeal := hExpUpIdeal)
    ∧ quiescent_ExpUpRefIdeal (hExpUpRefIdeal := hExpUpRefIdeal)
    ∧ preserves_InProj_InProjIdeal
    ∧ algebraic_InProjIdeal_InProjRefIdeal (hInProjIdeal := hInProjIdeal) (hInProjRefIdeal := hInProjRefIdeal)
    ∧ preserves_ExpDown_ExpDownIdeal
    ∧ algebraic_ExpDownIdeal_ExpDownRefIdeal (hExpDownIdeal := hExpDownIdeal) (hExpDownRefIdeal := hExpDownRefIdeal)
    ∧ preserves_Merge_MergeIdeal
    ∧ algebraic_MergeIdeal_MergeRefIdeal (hMergeIdeal := hMergeIdeal) (hMergeRefIdeal := hMergeRefIdeal)
    ∧ preserves_ExpUp_ExpUpIdeal
    ∧ algebraic_ExpUpIdeal_ExpUpRefIdeal (hExpUpIdeal := hExpUpIdeal) (hExpUpRefIdeal := hExpUpRefIdeal)
-- ==== InProj.lean ====
abbrev S16384x4096 : Shape := ⟨2, ![16384, 4096]⟩
abbrev S4096x15360 : Shape := ⟨2, ![4096, 15360]⟩
abbrev S1x128 : Shape := ⟨2, ![1, 128]⟩
abbrev S1x2048 : Shape := ⟨2, ![1, 2048]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S16384x15360 : Shape := ⟨2, ![16384, 15360]⟩
abbrev S1024x4096 : Shape := ⟨2, ![1024, 4096]⟩
abbrev S4096x1024 : Shape := ⟨2, ![4096, 1024]⟩
abbrev S1024x128 : Shape := ⟨2, ![1024, 128]⟩
abbrev S1x1024 : Shape := ⟨2, ![1, 1024]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩
abbrev S1024x256 : Shape := ⟨2, ![1024, 256]⟩
abbrev S1x256 : Shape := ⟨2, ![1, 256]⟩

abbrev nBuf : Space → Nat
  | .hbm => 76
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x15360, .bf16⟩
  | .hbm, ⟨2, _⟩ => ⟨S1x128, .f32⟩
  | .hbm, ⟨3, _⟩ => ⟨S1x2048, .f32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S_, .i1⟩
  | .hbm, ⟨40, _⟩ => ⟨S4096, .i1⟩
  | .hbm, ⟨41, _⟩ => ⟨S4096, .i1⟩
  | .hbm, ⟨42, _⟩ => ⟨S4096, .i1⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S4096x1, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x1, .f32⟩
  | .hbm, ⟨61, _⟩ => ⟨S1x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x128, .f32⟩
  | .hbm, ⟨68, _⟩ => ⟨S4096x32, .f32⟩
  | .hbm, ⟨69, _⟩ => ⟨S4096x32, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x32, .f32⟩
  | .hbm, ⟨74, _⟩ => ⟨S4096x128, .f32⟩
  | .hbm, ⟨75, _⟩ => ⟨S16384x15360, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 15], ![false, false]⟩

def k0_cond1 (i : grid0.Coords) : BitVec 1 :=
  let arg1 : BitVec 32 := BitVec.ofNat 32 (i 1).val
  let c2_i32 : BitVec 32 := 2#32
  let v3 : BitVec 1 := Scalar.cmpi .ne arg1 c2_i32
  let c5_i32 : BitVec 32 := 5#32
  let v4 : BitVec 1 := Scalar.cmpi .slt arg1 c5_i32
  let c7_i32 : BitVec 32 := 7#32
  let v5 : BitVec 1 := Scalar.cmpi .sge arg1 c7_i32
  let v6 : BitVec 1 := Scalar.ori v4 v5
  let v7 : BitVec 1 := Scalar.andi v3 v6
  let v8 : BitVec 32 := Scalar.extui v7
  let c0_i32 : BitVec 32 := 0#32
  let v9 : BitVec 1 := Scalar.cmpi .ne v8 c0_i32
  v9

def k0_cond2 (i : grid0.Coords) : BitVec 1 :=
  let arg1 : BitVec 32 := BitVec.ofNat 32 (i 1).val
  let c2_i32_3 : BitVec 32 := 2#32
  let v10 : BitVec 1 := Scalar.cmpi .eq arg1 c2_i32_3
  let v11 : BitVec 32 := Scalar.extui v10
  let c0_i32_4 : BitVec 32 := 0#32
  let v12 : BitVec 1 := Scalar.cmpi .ne v11 c0_i32_4
  v12

def k0_cond3 (i : grid0.Coords) : BitVec 1 :=
  let arg1 : BitVec 32 := BitVec.ofNat 32 (i 1).val
  let c5_i32_5 : BitVec 32 := 5#32
  let v13 : BitVec 1 := Scalar.cmpi .sge arg1 c5_i32_5
  let c7_i32_6 : BitVec 32 := 7#32
  let v14 : BitVec 1 := Scalar.cmpi .slt arg1 c7_i32_6
  let v15 : BitVec 1 := Scalar.andi v13 v14
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InProjRefIdeal.lean ====
abbrev S16384x4096 : Shape := ⟨2, ![16384, 4096]⟩
abbrev S4096x15360 : Shape := ⟨2, ![4096, 15360]⟩
abbrev S1x128 : Shape := ⟨2, ![1, 128]⟩
abbrev S1x2048 : Shape := ⟨2, ![1, 2048]⟩
abbrev S16384x15360 : Shape := ⟨2, ![16384, 15360]⟩
abbrev S4x4096x15360 : Shape := ⟨3, ![4, 4096, 15360]⟩
abbrev S4x4096x2048 : Shape := ⟨3, ![4, 4096, 2048]⟩
abbrev S4x4096x512 : Shape := ⟨3, ![4, 4096, 512]⟩
abbrev S4x4096x4096 : Shape := ⟨3, ![4, 4096, 4096]⟩
abbrev S4x4096x4x128 : Shape := ⟨4, ![4, 4096, 4, 128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4x4096x4x32 : Shape := ⟨4, ![4, 4096, 4, 32]⟩
abbrev S1x4096x1x32 : Shape := ⟨4, ![1, 4096, 1, 32]⟩
abbrev S4x4096x8x256 : Shape := ⟨4, ![4, 4096, 8, 256]⟩
abbrev S8x256 : Shape := ⟨2, ![8, 256]⟩
abbrev S4x4096x8 : Shape := ⟨3, ![4, 4096, 8]⟩
abbrev S4x4096x8x1 : Shape := ⟨4, ![4, 4096, 8, 1]⟩
abbrev S1x1x8x256 : Shape := ⟨4, ![1, 1, 8, 256]⟩

abbrev nBuf : Space → Nat
  | .hbm => 130
  | .vmem => 0
  | .smem => 0
  | _ => 0

abbrev hbmTy0_0 (i : Nat) : BufTy := match i % 128 with
  | 0 => ⟨S16384x4096, .bf16⟩
  | 1 => ⟨S4096x15360, .bf16⟩
  | 2 => ⟨S1x128, .f32⟩
  | 3 => ⟨S1x2048, .f32⟩
  | 4 => ⟨S16384x4096, .f32⟩
  | 5 => ⟨S4096x15360, .f32⟩
  | 6 => ⟨S16384x15360, .f32⟩
  | 7 => ⟨S4x4096x15360, .f32⟩
  | 8 => ⟨S4x4096x2048, .f32⟩
  | 9 => ⟨S4x4096x512, .f32⟩
  | 10 => ⟨S4x4096x512, .f32⟩
  | 11 => ⟨S4x4096x2048, .f32⟩
  | 12 => ⟨S4x4096x2048, .f32⟩
  | 13 => ⟨S4x4096x4096, .f32⟩
  | 14 => ⟨S4x4096x4096, .f32⟩
  | 15 => ⟨S4x4096x4x128, .f32⟩
  | 16 => ⟨S4x4096x4x128, .f32⟩
  | 17 => ⟨S_, .f32⟩
  | 18 => ⟨S4x4096x4, .f32⟩
  | 19 => ⟨S4x4096x4x1, .f32⟩
  | 20 => ⟨S_, .f32⟩
  | 21 => ⟨S4x4096x4x1, .f32⟩
  | 22 => ⟨S4x4096x4x1, .f32⟩
  | 23 => ⟨S_, .f32⟩
  | 24 => ⟨S4x4096x4x1, .f32⟩
  | 25 => ⟨S4x4096x4x1, .f32⟩
  | 26 => ⟨S4x4096x4x1, .f32⟩
  | 27 => ⟨S4x4096x4x128, .f32⟩
  | 28 => ⟨S4x4096x4x128, .f32⟩
  | 29 => ⟨S1x1x1x128, .f32⟩
  | 30 => ⟨S4x4096x4x128, .f32⟩
  | 31 => ⟨S4x4096x4x128, .f32⟩
  | 32 => ⟨S64, .f32⟩
  | 33 => ⟨S64x64, .f32⟩
  | 34 => ⟨S4096, .f32⟩
  | 35 => ⟨S64, .f32⟩
  | 36 => ⟨S1x64, .f32⟩
  | 37 => ⟨S64x64, .f32⟩
  | 38 => ⟨S4096, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S4096x1, .f32⟩
  | 48 => ⟨S1x32, .f32⟩
  | 49 => ⟨S4096x32, .f32⟩
  | 50 => ⟨S4096x32, .f32⟩
  | 51 => ⟨S4096x32, .f32⟩
  | 52 => ⟨S4096x1, .f32⟩
  | 53 => ⟨S1x32, .f32⟩
  | 54 => ⟨S4096x32, .f32⟩
  | 55 => ⟨S4096x32, .f32⟩
  | 56 => ⟨S4096x32, .f32⟩
  | 57 => ⟨S4x4096x4x32, .f32⟩
  | 58 => ⟨S4x4096x4x32, .f32⟩
  | 59 => ⟨S4096x32, .f32⟩
  | 60 => ⟨S1x4096x1x32, .f32⟩
  | 61 => ⟨S4096x32, .f32⟩
  | 62 => ⟨S1x4096x1x32, .f32⟩
  | 63 => ⟨S4x4096x4x32, .f32⟩
  | 64 => ⟨S4x4096x4x32, .f32⟩
  | 65 => ⟨S4x4096x4x32, .f32⟩
  | 66 => ⟨S4x4096x4x32, .f32⟩
  | 67 => ⟨S4x4096x4x32, .f32⟩
  | 68 => ⟨S4x4096x4x32, .f32⟩
  | 69 => ⟨S4x4096x4x32, .f32⟩
  | 70 => ⟨S4x4096x4x32, .f32⟩
  | 71 => ⟨S4x4096x4x32, .f32⟩
  | 72 => ⟨S4x4096x4x32, .f32⟩
  | 73 => ⟨S4x4096x4x32, .f32⟩
  | 74 => ⟨S4x4096x4x32, .f32⟩
  | 75 => ⟨S4096x32, .f32⟩
  | 76 => ⟨S1x4096x1x32, .f32⟩
  | 77 => ⟨S4096x32, .f32⟩
  | 78 => ⟨S1x4096x1x32, .f32⟩
  | 79 => ⟨S4x4096x4x32, .f32⟩
  | 80 => ⟨S4x4096x4x32, .f32⟩
  | 81 => ⟨S4x4096x4x32, .f32⟩
  | 82 => ⟨S4x4096x4x32, .f32⟩
  | 83 => ⟨S4x4096x4x32, .f32⟩
  | 84 => ⟨S4x4096x4x32, .f32⟩
  | 85 => ⟨S4x4096x4x32, .f32⟩
  | 86 => ⟨S4x4096x4x32, .f32⟩
  | 87 => ⟨S4x4096x4x32, .f32⟩
  | 88 => ⟨S4x4096x4x32, .f32⟩
  | 89 => ⟨S4x4096x4x128, .f32⟩
  | 90 => ⟨S4x4096x512, .f32⟩
  | 91 => ⟨S4x4096x2048, .f32⟩
  | 92 => ⟨S4x4096x2048, .f32⟩
  | 93 => ⟨S_, .f32⟩
  | 94 => ⟨S4x4096x2048, .f32⟩
  | 95 => ⟨S4x4096x2048, .f32⟩
  | 96 => ⟨S4x4096x2048, .f32⟩
  | 97 => ⟨S_, .f32⟩
  | 98 => ⟨S4x4096x2048, .f32⟩
  | 99 => ⟨S4x4096x2048, .f32⟩
  | 100 => ⟨S4x4096x2048, .f32⟩
  | 101 => ⟨S_, .f32⟩
  | 102 => ⟨S4x4096x2048, .f32⟩
  | 103 => ⟨S4x4096x2048, .f32⟩
  | 104 => ⟨S_, .f32⟩
  | 105 => ⟨S4x4096x2048, .f32⟩
  | 106 => ⟨S4x4096x2048, .f32⟩
  | 107 => ⟨S4x4096x2048, .f32⟩
  | 108 => ⟨S4x4096x8x256, .f32⟩
  | 109 => ⟨S8x256, .f32⟩
  | 110 => ⟨S4x4096x8x256, .f32⟩
  | 111 => ⟨S_, .f32⟩
  | 112 => ⟨S4x4096x8, .f32⟩
  | 113 => ⟨S4x4096x8x1, .f32⟩
  | 114 => ⟨S_, .f32⟩
  | 115 => ⟨S4x4096x8x1, .f32⟩
  | 116 => ⟨S4x4096x8x1, .f32⟩
  | 117 => ⟨S_, .f32⟩
  | 118 => ⟨S4x4096x8x1, .f32⟩
  | 119 => ⟨S4x4096x8x1, .f32⟩
  | 120 => ⟨S4x4096x8x1, .f32⟩
  | 121 => ⟨S4x4096x8x256, .f32⟩
  | 122 => ⟨S4x4096x8x256, .f32⟩
  | 123 => ⟨S1x1x8x256, .f32⟩
  | 124 => ⟨S4x4096x8x256, .f32⟩
  | 125 => ⟨S4x4096x8x256, .f32⟩
  | 126 => ⟨S4x4096x2048, .f32⟩
  | 127 => ⟨S4x4096x15360, .f32⟩
  | _ => ⟨S16384x4096, .bf16⟩

abbrev hbmTy0_1 (i : Nat) : BufTy := match i % 128 with
  | 0 => ⟨S16384x15360, .f32⟩
  | 1 => ⟨S16384x15360, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_cst_4 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_5 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_6 : Ref sig .tc := ⟨.hbm, 101, rfl⟩
abbrev main_v90 : Ref sig .tc := ⟨.hbm, 102, rfl⟩
abbrev main_v91 : Ref sig .tc := ⟨.hbm, 103, rfl⟩
abbrev main_cst_7 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_cst_8 : Ref sig .tc := ⟨.hbm, 111, rfl⟩
abbrev main_v98 : Ref sig .tc := ⟨.hbm, 112, rfl⟩
abbrev main_v99 : Ref sig .tc := ⟨.hbm, 113, rfl⟩
abbrev main_cst_9 : Ref sig .tc := ⟨.hbm, 114, rfl⟩
abbrev main_v100 : Ref sig .tc := ⟨.hbm, 115, rfl⟩
abbrev main_v101 : Ref sig .tc := ⟨.hbm, 116, rfl⟩
abbrev main_cst_10 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩

abbrev nD : Nat := 1
abbrev τ : Topo := Topo.v7x

variable {F : FTy → Type} [FloatOps F]
-- ==== ExpDown.lean ====
abbrev S16x4x512x2048 : Shape := ⟨4, ![16, 4, 512, 2048]⟩
abbrev S16x2048x4096 : Shape := ⟨3, ![16, 2048, 4096]⟩
abbrev S4x16x512x1 : Shape := ⟨4, ![4, 16, 512, 1]⟩
abbrev S16x4x512x4096 : Shape := ⟨4, ![16, 4, 512, 4096]⟩
abbrev S1x4x512x2048 : Shape := ⟨4, ![1, 4, 512, 2048]⟩
abbrev S1x2048x512 : Shape := ⟨3, ![1, 2048, 512]⟩
abbrev S4x1x512x1 : Shape := ⟨4, ![4, 1, 512, 1]⟩
abbrev S1x4x512x512 : Shape := ⟨4, ![1, 4, 512, 512]⟩
abbrev S2048x512 : Shape := ⟨2, ![2048, 512]⟩
abbrev S1x1x512x2048 : Shape := ⟨4, ![1, 1, 512, 2048]⟩
abbrev S512x2048 : Shape := ⟨2, ![512, 2048]⟩
abbrev S512x512 : Shape := ⟨2, ![512, 512]⟩
abbrev S1x1x512x1 : Shape := ⟨4, ![1, 1, 512, 1]⟩
abbrev S512x1 : Shape := ⟨2, ![512, 1]⟩
abbrev S1x1x512x512 : Shape := ⟨4, ![1, 1, 512, 512]⟩

abbrev nBuf : Space → Nat
  | .hbm => 4
  | .vmem => 8
  | .smem => 0
  | _ => 0

abbrev bufTy : (tb : Table) → Fin (tcTables nBuf tb) → BufTy
  | .hbm, ⟨0, _⟩ => ⟨S16x4x512x2048, .bf16⟩
  | .hbm, ⟨1, _⟩ => ⟨S16x2048x4096, .f32⟩
  | .hbm, ⟨2, _⟩ => ⟨S4x16x512x1, .f32⟩
  | .hbm, ⟨3, _⟩ => ⟨S16x4x512x4096, .bf16⟩
  | .local _ .vmem, ⟨0, _⟩ => ⟨S1x4x512x2048, .bf16⟩
  | .local _ .vmem, ⟨1, _⟩ => ⟨S1x4x512x2048, .bf16⟩
  | .local _ .vmem, ⟨2, _⟩ => ⟨S1x2048x512, .f32⟩
  | .local _ .vmem, ⟨3, _⟩ => ⟨S1x2048x512, .f32⟩
  | .local _ .vmem, ⟨4, _⟩ => ⟨S4x1x512x1, .f32⟩
  | .local _ .vmem, ⟨5, _⟩ => ⟨S4x1x512x1, .f32⟩
  | .local _ .vmem, ⟨6, _⟩ => ⟨S1x4x512x512, .bf16⟩
  | .local _ .vmem, ⟨7, _⟩ => ⟨S1x4x512x512, .bf16⟩
  | _, _ => ⟨S16x4x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x4x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpDownRefIdeal.lean ====
abbrev S16x4x512x2048 : Shape := ⟨4, ![16, 4, 512, 2048]⟩
abbrev S16x2048x4096 : Shape := ⟨3, ![16, 2048, 4096]⟩
abbrev S4x16x512x1 : Shape := ⟨4, ![4, 16, 512, 1]⟩
abbrev S16x4x512x4096 : Shape := ⟨4, ![16, 4, 512, 4096]⟩
abbrev S16x4x512x1 : Shape := ⟨4, ![16, 4, 512, 1]⟩

abbrev nBuf : Space → Nat
  | .hbm => 9
  | .vmem => 0
  | .smem => 0
  | _ => 0

abbrev bufTy : (tb : Table) → Fin (tcTables nBuf tb) → BufTy
  | .hbm, ⟨0, _⟩ => ⟨S16x4x512x2048, .bf16⟩
  | .hbm, ⟨1, _⟩ => ⟨S16x2048x4096, .f32⟩
  | .hbm, ⟨2, _⟩ => ⟨S4x16x512x1, .f32⟩
  | .hbm, ⟨3, _⟩ => ⟨S16x4x512x2048, .f32⟩
  | .hbm, ⟨4, _⟩ => ⟨S16x4x512x4096, .f32⟩
  | .hbm, ⟨5, _⟩ => ⟨S16x4x512x1, .f32⟩
  | .hbm, ⟨6, _⟩ => ⟨S16x4x512x4096, .f32⟩
  | .hbm, ⟨7, _⟩ => ⟨S16x4x512x4096, .f32⟩
  | .hbm, ⟨8, _⟩ => ⟨S16x4x512x4096, .bf16⟩
  | _, _ => ⟨S16x4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Merge.lean ====
abbrev S16384x2048 : Shape := ⟨2, ![16384, 2048]⟩
abbrev S16384x15360 : Shape := ⟨2, ![16384, 15360]⟩
abbrev S8x128x128 : Shape := ⟨3, ![8, 128, 128]⟩
abbrev S8x128 : Shape := ⟨2, ![8, 128]⟩
abbrev S2048x4096 : Shape := ⟨2, ![2048, 4096]⟩
abbrev S128x8 : Shape := ⟨2, ![128, 8]⟩
abbrev S16384x4096 : Shape := ⟨2, ![16384, 4096]⟩
abbrev S512x2048 : Shape := ⟨2, ![512, 2048]⟩
abbrev S512x1024 : Shape := ⟨2, ![512, 1024]⟩
abbrev S2048x1024 : Shape := ⟨2, ![2048, 1024]⟩
abbrev S1x128x128 : Shape := ⟨3, ![1, 128, 128]⟩
abbrev S128x128 : Shape := ⟨2, ![128, 128]⟩
abbrev S128x1 : Shape := ⟨2, ![128, 1]⟩
abbrev S128x256 : Shape := ⟨2, ![128, 256]⟩

abbrev nBuf : Space → Nat
  | .hbm => 8
  | .vmem => 23
  | .smem => 0
  | _ => 0

abbrev bufTy : (tb : Table) → Fin (tcTables nBuf tb) → BufTy
  | .hbm, ⟨0, _⟩ => ⟨S16384x2048, .bf16⟩
  | .hbm, ⟨1, _⟩ => ⟨S16384x15360, .bf16⟩
  | .hbm, ⟨2, _⟩ => ⟨S8x128x128, .f32⟩
  | .hbm, ⟨3, _⟩ => ⟨S8x128, .f32⟩
  | .hbm, ⟨4, _⟩ => ⟨S2048x4096, .bf16⟩
  | .hbm, ⟨5, _⟩ => ⟨S2048x4096, .bf16⟩
  | .hbm, ⟨6, _⟩ => ⟨S128x8, .f32⟩
  | .hbm, ⟨7, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S8x128x128, .f32⟩
  | .local _ .vmem, ⟨11, _⟩ => ⟨S128x8, .f32⟩
  | .local _ .vmem, ⟨12, _⟩ => ⟨S2048x1024, .bf16⟩
  | .local _ .vmem, ⟨13, _⟩ => ⟨S2048x1024, .bf16⟩
  | .local _ .vmem, ⟨14, _⟩ => ⟨S2048x1024, .bf16⟩
  | .local _ .vmem, ⟨15, _⟩ => ⟨S2048x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S16384x2048 : Shape := ⟨2, ![16384, 2048]⟩
abbrev S16384x15360 : Shape := ⟨2, ![16384, 15360]⟩
abbrev S8x128x128 : Shape := ⟨3, ![8, 128, 128]⟩
abbrev S8x128 : Shape := ⟨2, ![8, 128]⟩
abbrev S2048x4096 : Shape := ⟨2, ![2048, 4096]⟩
abbrev S_ : Shape := ⟨0, ![]⟩
abbrev S16384x4096 : Shape := ⟨2, ![16384, 4096]⟩
abbrev S128x128x8x256 : Shape := ⟨4, ![128, 128, 8, 256]⟩
abbrev S8x128x256x128 : Shape := ⟨4, ![8, 128, 256, 128]⟩
abbrev S128x8 : Shape := ⟨2, ![128, 8]⟩
abbrev S1x128x8x1 : Shape := ⟨4, ![1, 128, 8, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x15360, .bf16⟩
  | .hbm, ⟨2, _⟩ => ⟨S8x128x128, .f32⟩
  | .hbm, ⟨3, _⟩ => ⟨S8x128, .f32⟩
  | .hbm, ⟨4, _⟩ => ⟨S2048x4096, .bf16⟩
  | .hbm, ⟨5, _⟩ => ⟨S2048x4096, .bf16⟩
  | .hbm, ⟨6, _⟩ => ⟨S16384x15360, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S_, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S16384x2048, .f32⟩
  | .hbm, ⟨26, _⟩ => ⟨S16384x4096, .f32⟩
  | .hbm, ⟨27, _⟩ => ⟨S16384x4096, .f32⟩
  | .hbm, ⟨28, _⟩ => ⟨S128x128x8x256, .f32⟩
  | .hbm, ⟨29, _⟩ => ⟨S8x128x256x128, .f32⟩
  | .hbm, ⟨30, _⟩ => ⟨S128x128x8x256, .f32⟩
  | .hbm, ⟨31, _⟩ => ⟨S128x8, .f32⟩
  | .hbm, ⟨32, _⟩ => ⟨S1x128x8x1, .f32⟩
  | .hbm, ⟨33, _⟩ => ⟨S128x128x8x256, .f32⟩
  | .hbm, ⟨34, _⟩ => ⟨S128x128x8x256, .f32⟩
  | .hbm, ⟨35, _⟩ => ⟨S16384x2048, .f32⟩
  | .hbm, ⟨36, _⟩ => ⟨S16384x2048, .f32⟩
  | .hbm, ⟨37, _⟩ => ⟨S16384x4096, .f32⟩
  | .hbm, ⟨38, _⟩ => ⟨S16384x4096, .f32⟩
  | .hbm, ⟨39, _⟩ => ⟨S_, .f32⟩
  | .hbm, ⟨40, _⟩ => ⟨S16384x4096, .f32⟩
  | .hbm, ⟨41, _⟩ => ⟨S16384x4096, .f32⟩
  | .hbm, ⟨42, _⟩ => ⟨S_, .f32⟩
  | .hbm, ⟨43, _⟩ => ⟨S16384x4096, .f32⟩
  | .hbm, ⟨44, _⟩ => ⟨S16384x4096, .f32⟩
  | .hbm, ⟨45, _⟩ => ⟨S16384x2048, .f32⟩
  | .hbm, ⟨46, _⟩ => ⟨S2048x4096, .f32⟩
  | .hbm, ⟨47, _⟩ => ⟨S16384x4096, .f32⟩
  | .hbm, ⟨48, _⟩ => ⟨S16384x4096, .f32⟩
  | .hbm, ⟨49, _⟩ => ⟨S16384x4096, .f32⟩
  | .hbm, ⟨50, _⟩ => ⟨S16384x4096, .f32⟩
  | .hbm, ⟨51, _⟩ => ⟨S_, .f32⟩
  | .hbm, ⟨52, _⟩ => ⟨S16384x4096, .f32⟩
  | .hbm, ⟨53, _⟩ => ⟨S16384x4096, .f32⟩
  | .hbm, ⟨54, _⟩ => ⟨S_, .f32⟩
  | .hbm, ⟨55, _⟩ => ⟨S16384x4096, .f32⟩
  | .hbm, ⟨56, _⟩ => ⟨S16384x4096, .f32⟩
  | .hbm, ⟨57, _⟩ => ⟨S2048x4096, .f32⟩
  | .hbm, ⟨58, _⟩ => ⟨S16384x4096, .f32⟩
  | .hbm, ⟨59, _⟩ => ⟨S16384x4096, .f32⟩
  | .hbm, ⟨60, _⟩ => ⟨S16384x4096, .f32⟩
  | .hbm, ⟨61, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== ExpUp.lean ====
abbrev S16x4x512x4096 : Shape := ⟨4, ![16, 4, 512, 4096]⟩
abbrev S16x4096x2048 : Shape := ⟨3, ![16, 4096, 2048]⟩
abbrev S16x4x512x2048 : Shape := ⟨4, ![16, 4, 512, 2048]⟩
abbrev S1x4x512x4096 : Shape := ⟨4, ![1, 4, 512, 4096]⟩
abbrev S1x4096x256 : Shape := ⟨3, ![1, 4096, 256]⟩
abbrev S1x4x512x256 : Shape := ⟨4, ![1, 4, 512, 256]⟩
abbrev S4096x256 : Shape := ⟨2, ![4096, 256]⟩
abbrev S1x1x512x4096 : Shape := ⟨4, ![1, 1, 512, 4096]⟩
abbrev S512x4096 : Shape := ⟨2, ![512, 4096]⟩
abbrev S512x256 : Shape := ⟨2, ![512, 256]⟩
abbrev S1x1x512x256 : Shape := ⟨4, ![1, 1, 512, 256]⟩

abbrev nBuf : Space → Nat
  | .hbm => 4
  | .vmem => 7
  | .smem => 0
  | _ => 0

abbrev bufTy : (tb : Table) → Fin (tcTables nBuf tb) → BufTy
  | .hbm, ⟨0, _⟩ => ⟨S16x4x512x4096, .bf16⟩
  | .hbm, ⟨1, _⟩ => ⟨S16x4096x2048, .f32⟩
  | .hbm, ⟨2, _⟩ => ⟨S16x4096x2048, .f32⟩
  | .hbm, ⟨3, _⟩ => ⟨S16x4x512x2048, .bf16⟩
  | .local _ .vmem, ⟨0, _⟩ => ⟨S1x4x512x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4x512x256, .bf16⟩
  | .local _ .vmem, ⟨6, _⟩ => ⟨S1x4x512x256, .bf16⟩
  | _, _ => ⟨S16x4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .vmem S1x4x512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ExpUpRefIdeal.lean ====
abbrev S16x4x512x4096 : Shape := ⟨4, ![16, 4, 512, 4096]⟩
abbrev S16x4096x2048 : Shape := ⟨3, ![16, 4096, 2048]⟩
abbrev S16x4x512x2048 : Shape := ⟨4, ![16, 4, 512, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16x4x512x4096, .bf16⟩
  | .hbm, ⟨1, _⟩ => ⟨S16x4096x2048, .f32⟩
  | .hbm, ⟨2, _⟩ => ⟨S16x4096x2048, .f32⟩
  | .hbm, ⟨3, _⟩ => ⟨S16x4x512x4096, .f32⟩
  | .hbm, ⟨4, _⟩ => ⟨S16x4x512x2048, .f32⟩
  | .hbm, ⟨5, _⟩ => ⟨S16x4x512x2048, .f32⟩
  | .hbm, ⟨6, _⟩ => ⟨S16x4x512x2048, .f32⟩
  | .hbm, ⟨7, _⟩ => ⟨S_, .f32⟩
  | .hbm, ⟨8, _⟩ => ⟨S16x4x512x2048, .f32⟩
  | .hbm, ⟨9, _⟩ => ⟨S16x4x512x2048, .f32⟩
  | .hbm, ⟨10, _⟩ => ⟨S_, .f32⟩
  | .hbm, ⟨11, _⟩ => ⟨S16x4x512x2048, .f32⟩
  | .hbm, ⟨12, _⟩ => ⟨S16x4x512x2048, .f32⟩
  | .hbm, ⟨13, _⟩ => ⟨S16x4x512x2048, .f32⟩
  | .hbm, ⟨14, _⟩ => ⟨S16x4x512x2048, .f32⟩
  | .hbm, ⟨15, _⟩ => ⟨S16x4x512x2048, .f32⟩
  | .hbm, ⟨16, _⟩ => ⟨S16x4x512x2048, .bf16⟩
  | _, _ => ⟨S16x4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.InProjTabs.lean ====
module
public import proofs.«01_k».proof.Proof.Gen.InProjIdeal.Value
public import Idealize.ShloMosaic.Lib.Pipeline.ValueKit
public import Idealize.ShloMosaic.Lib.Pointwise
public import Idealize.ShloMosaic.Lib.WholeRead
public import Idealize.ShloMosaic.Lib.StableHlo.ReadAt
@[expose] public section
noncomputable section
namespace Cert.InProjIdeal.Hand
open Cert.InProjIdeal Cert.InProjIdeal.Gen Idealize.ShloMosaic Idealize.ShloMosaic.TcCoe Idealize.SL.Sem
set_option pp.proofs false
variable (m : (ℓ : Loc nD τ sig) → Buf (Elt Ideal) ℓ)

/-- A token's rotation angle in frequency `j`: its grid coordinate `p` times 10000^(-j/32). -/
def ang (p j : ℕ) : EReal :=
  (FloatOps.sitofp (F := Ideal) FTy.f32 (BitVec.ofNat 32 p) : EReal) * Ideal.pow (Ideal.ofBits FTy.f32 1176256512#32)
    (Ideal.div (-(FloatOps.sitofp (F := Ideal) FTy.f32 (BitVec.ofNat 32 j) : EReal)) (Ideal.ofBits FTy.f32 1107296256#32))

/-- The angle of token `n` for lane `d` of a head: the row turns the first half of the lanes, the column the second. -/
def angAt (n d : ℕ) : EReal := ang (if d < 64 then n / 64 else n % 64) (d % 32)

theorem row_eq : ∀ n : Fin 4096, Scalar.select
              (IntOp.andi
                (IntOp.cmpi CmpIPredicate.ne
                  (if BitVec.ofNat 32 ↑n = 0 then (0 : BitVec 32) else if (BitVec.ofNat 32 ↑n).msb = true then -1 else 1)
                  (if (id (constantI S_ 32 64#32) ix0) = 0 then (0 : BitVec 32) else if BitVec.msb (id (constantI S_ 32 64#32) ix0) = true then -1 else 1))
                (IntOp.cmpi CmpIPredicate.ne
                  (IntOp.remsi ArithUnit.host (BitVec.ofNat 32 ↑n) (id (constantI S_ 32 64#32) ix0)) 0#32))
              (IntOp.subi (IntOp.divsi ArithUnit.host (BitVec.ofNat 32 ↑n) (id (constantI S_ 32 64#32) ix0)) 1#32)
              (IntOp.divsi ArithUnit.host (BitVec.ofNat 32 ↑n) (id (constantI S_ 32 64#32) ix0)) = BitVec.ofNat 32 (n / 64) := by
  decide +kernel
theorem col_eq : ∀ n : Fin 4096, Scalar.select
                  (IntOp.andi
                    (IntOp.cmpi CmpIPredicate.ne
                      (IntOp.cmpi CmpIPredicate.slt
                        (IntOp.remsi ArithUnit.host (BitVec.ofNat 32 ↑n) (Scalar.select (IntOp.cmpi CmpIPredicate.eq (id (constantI S_ 32 64#32) ix0) 0#32) (1#32) (id (constantI S_ 32 64#32) ix0)))
                        0#32) (IntOp.cmpi CmpIPredicate.slt (Scalar.select (IntOp.cmpi CmpIPredicate.eq (id (constantI S_ 32 64#32) ix0) 0#32) (1#32) (id (constantI S_ 32 64#32) ix0)) 0#32))
                    (IntOp.cmpi CmpIPredicate.ne
                      (IntOp.remsi ArithUnit.host (BitVec.ofNat 32 ↑n) (Scalar.select (IntOp.cmpi CmpIPredicate.eq (id (constantI S_ 32 64#32) ix0) 0#32) (1#32) (id (constantI S_ 32 64#32) ix0))) 0#32))
                  (IntOp.addi
                    (IntOp.remsi ArithUnit.host (BitVec.ofNat 32 ↑n) (Scalar.select (IntOp.cmpi CmpIPredicate.eq (id (constantI S_ 32 64#32) ix0) 0#32) (1#32) (id (constantI S_ 32 64#32) ix0))) (Scalar.select (IntOp.cmpi CmpIPredicate.eq (id (constantI S_ 32 64#32) ix0) 0#32) (1#32) (id (constantI S_ 32 64#32) ix0)))
                  (IntOp.remsi ArithUnit.host (BitVec.ofNat 32 ↑n) (Scalar.select (IntOp.cmpi CmpIPredicate.eq (id (constantI S_ 32 64#32) ix0) 0#32) (1#32) (id (constantI S_ 32 64#32) ix0))) = BitVec.ofNat 32 (n % 64) := by
  decide +kernel

theorem cos_tab (c : Dev nD) (n : Fin 4096) (d : Fin 128) :
    ((V m c main_v23 : (⟨S4096x128, .f32⟩ : BufTy).Contents (Elt Ideal)) (ix2 n d) : EReal) = Ideal.cos (angAt n d) := by
  unfold V
  after_reads_at
  simp only [StableHlo.unary_result']
  after_reads_at
  have hd := d.isLt
  unfold angAt ang
  by_cases h0 : d.val < 32
  · rw [dif_pos h0, if_pos (show d.val < 64 by omega), show d.val % 32 = d.val by omega]
    exact congrArg (fun z => Ideal.cos ((FloatOps.sitofp (F := Ideal) FTy.f32 z : EReal) * Ideal.pow (Ideal.ofBits FTy.f32 1176256512#32) (Ideal.div (-(FloatOps.sitofp (F := Ideal) FTy.f32 (BitVec.ofNat 32 (d.val)) : EReal)) (Ideal.ofBits FTy.f32 1107296256#32)))) (row_eq n)
  by_cases h1 : d.val - 32 < 32
  · rw [dif_neg h0, dif_pos h1, if_pos (show d.val < 64 by omega), show d.val % 32 = d.val - 32 by omega]
    exact congrArg (fun z => Ideal.cos ((FloatOps.sitofp (F := Ideal) FTy.f32 z : EReal) * Ideal.pow (Ideal.ofBits FTy.f32 1176256512#32) (Ideal.div (-(FloatOps.sitofp (F := Ideal) FTy.f32 (BitVec.ofNat 32 (d.val - 32)) : EReal)) (Ideal.ofBits FTy.f32 1107296256#32)))) (row_eq n)
  by_cases h2 : d.val - 32 - 32 < 32
  · rw [dif_neg h0, dif_neg h1, dif_pos h2, if_neg (show ¬ d.val < 64 by omega), show d.val % 32 = d.val - 32 - 32 by omega]
    exact congrArg (fun z => Ideal.cos ((FloatOps.sitofp (F := Ideal) FTy.f32 z : EReal) * Ideal.pow (Ideal.ofBits FTy.f32 1176256512#32) (Ideal.div (-(FloatOps.sitofp (F := Ideal) FTy.f32 (BitVec.ofNat 32 (d.val - 32 - 32)) : EReal)) (Ideal.ofBits FTy.f32 1107296256#32)))) (col_eq n)
  · rw [dif_neg h0, dif_neg h1, dif_neg h2, if_neg (show ¬ d.val < 64 by omega), show d.val % 32 = d.val - 32 - 32 - 32 by omega]
    exact congrArg (fun z => Ideal.cos ((FloatOps.sitofp (F := Ideal) FTy.f32 z : EReal) * Ideal.pow (Ideal.ofBits FTy.f32 1176256512#32) (Ideal.div (-(FloatOps.sitofp (F := Ideal) FTy.f32 (BitVec.ofNat 32 (d.val - 32 - 32 - 32)) : EReal)) (Ideal.ofBits FTy.f32 1107296256#32)))) (col_eq n)

theorem sin_tab (c : Dev nD) (n : Fin 4096) (d : Fin 128) :
    ((V m c main_v30 : (⟨S4096x128, .f32⟩ : BufTy).Contents (Elt Ideal)) (ix2 n d) : EReal)
      = if d.val % 64 < 32 then -Ideal.sin (angAt n d) else Ideal.sin (angAt n d) := by
  unfold V
  after_reads_at
  simp only [StableHlo.unary_result']
  after_reads_at
  have hd := d.isLt
  unfold angAt ang
  by_cases h0 : d.val < 32
  · rw [dif_pos h0, if_pos (show d.val < 64 by omega), if_pos (show d.val % 64 < 32 by omega), show d.val % 32 = d.val by omega]
    exact congrArg (fun z => -Ideal.sin ((FloatOps.sitofp (F := Ideal) FTy.f32 z : EReal) * Ideal.pow (Ideal.ofBits FTy.f32 1176256512#32) (Ideal.div (-(FloatOps.sitofp (F := Ideal) FTy.f32 (BitVec.ofNat 32 (d.val)) : EReal)) (Ideal.ofBits FTy.f32 1107296256#32)))) (row_eq n)
  by_cases h1 : d.val - 32 < 32
  · rw [dif_neg h0, dif_pos h1, if_pos (show d.val < 64 by omega), if_neg (show ¬ d.val % 64 < 32 by omega), show d.val % 32 = d.val - 32 by omega]
    exact congrArg (fun z => Ideal.sin ((FloatOps.sitofp (F := Ideal) FTy.f32 z : EReal) * Ideal.pow (Ideal.ofBits FTy.f32 1176256512#32) (Ideal.div (-(FloatOps.sitofp (F := Ideal) FTy.f32 (BitVec.ofNat 32 (d.val - 32)) : EReal)) (Ideal.ofBits FTy.f32 1107296256#32)))) (row_eq n)
  by_cases h2 : d.val - 32 - 32 < 32
  · rw [dif_neg h0, dif_neg h1, dif_pos h2, if_neg (show ¬ d.val < 64 by omega), if_pos (show d.val % 64 < 32 by omega), show d.val % 32 = d.val - 32 - 32 by omega]
    exact congrArg (fun z => -Ideal.sin ((FloatOps.sitofp (F := Ideal) FTy.f32 z : EReal) * Ideal.pow (Ideal.ofBits FTy.f32 1176256512#32) (Ideal.div (-(FloatOps.sitofp (F := Ideal) FTy.f32 (BitVec.ofNat 32 (d.val - 32 - 32)) : EReal)) (Ideal.ofBits FTy.f32 1107296256#32)))) (col_eq n)
  · rw [dif_neg h0, dif_neg h1, dif_neg h2, if_neg (show ¬ d.val < 64 by omega), if_neg (show ¬ d.val % 64 < 32 by omega), show d.val % 32 = d.val - 32 - 32 - 32 by omega]
    exact congrArg (fun z => Ideal.sin ((FloatOps.sitofp (F := Ideal) FTy.f32 z : EReal) * Ideal.pow (Ideal.ofBits FTy.f32 1176256512#32) (Ideal.div (-(FloatOps.sitofp (F := Ideal) FTy.f32 (BitVec.ofNat 32 (d.val - 32 - 32 - 32)) : EReal)) (Ideal.ofBits FTy.f32 1107296256#32)))) (col_eq n)

/-- The projection's product at row `r`, column `c`. -/
def P (a : S16384x4096.Idx → EReal) (w : S4096x15360.Idx → EReal) (r c : ℕ) : EReal :=
  if h : r < 16384 ∧ c < 15360 then ∑ k : Fin 4096, a (ix2 ⟨r, h.1⟩ k) * w (ix2 k ⟨c, h.2⟩) else 0

theorem e0 : ∀ t : Fin cfg0.N, win0_0.index t = ![(grid0.coords t 0).val, 0] := (by decide +kernel : ∀ t : Fin grid0.N, _)
theorem e1 : ∀ t : Fin cfg0.N, win0_1.index t = ![0, (grid0.coords t 1).val] := (by decide +kernel : ∀ t : Fin grid0.N, _)
theorem e2 : ∀ t : Fin cfg0.N, win0_2.index t = ![(grid0.coords t 0).val % 4, 0] := (by decide +kernel : ∀ t : Fin grid0.N, _)
theorem e3 : ∀ t : Fin cfg0.N, win0_3.index t = ![(grid0.coords t 0).val % 4, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, min ((grid0.coords t 1).val - 5) 1] := (by decide +kernel : ∀ t : Fin grid0.N, _)
theorem e6 : ∀ t : Fin cfg0.N, win0_6.index t = ![(grid0.coords t 0).val, (grid0.coords t 1).val] := (by decide +kernel : ∀ t : Fin grid0.N, _)

theorem c0_lt (t : Fin cfg0.N) : (grid0.coords t 0).val < 16 := (grid0.coords t 0).isLt
theorem c1_lt (t : Fin cfg0.N) : (grid0.coords t 1).val < 15 := (grid0.coords t 1).isLt

theorem unit0 {s : Shape} (off : Fin s.rank → ℕ) (h : ∀ a, off a = 0) (inb : ∀ a, off a + s.size a ≤ s.size a)
    (x : s.Idx) : (Rect.unit off s.size inb).toLoadRect.idx x = x := by
  funext a
  apply Fin.ext
  show off a + 1 * (x a : ℕ) = x a
  rw [h]; omega

theorem acc_eq (c : Dev nD) (t : Fin cfg0.N) (r k : Fin 1024) :
    ∑ x : Fin 4096, @HMul.hMul EReal EReal EReal instHMul ((@View.readAt sig (Elt Ideal) (Proc.kind (Proc.tc (τ := τ))) Space.vmem S1024x4096 .bf16 (ms0_0 t).view (Rect.unit (s := S1024x4096) ![0, 0] ![1024, 4096] inb_S1024x4096_S1024x4096_0_0).toLoadRect ((hs0_0 t).unread (iblk m c 0 t)) : Vec Ideal S1024x4096 .bf16) (ix2 r x))
      ((@View.readAt sig (Elt Ideal) (Proc.kind (Proc.tc (τ := τ))) Space.vmem S4096x1024 .bf16 (ms0_1 t).view (Rect.unit (s := S4096x1024) ![0, 0] ![4096, 1024] inb_S4096x1024_S4096x1024_0_0).toLoadRect ((hs0_1 t).unread (iblk m c 1 t)) : Vec Ideal S4096x1024 .bf16) (ix2 x k))
    = P (m ((c : Thread nD τ).loc main_arg0)) (m ((c : Thread nD τ).loc main_arg1)) (1024 * (grid0.coords t 0).val + r) (1024 * (grid0.coords t 1).val + k) := by
  have h0 := c0_lt t
  have h1 := c1_lt t
  rw [P, dif_pos ⟨by omega, by omega⟩]
  refine Finset.sum_congr rfl fun x _ => Ideal.mul_congr ?_ ?_ <;>
  · first
    | refine ((hs0_0 t).readAt_unread _ _ _).trans ((congrArg (iblk m c 0 t) (unit0 (s := S1024x4096) ![0, 0] (by decide) _ _)).trans ?_)
    | refine ((hs0_1 t).readAt_unread _ _ _).trans ((congrArg (iblk m c 1 t) (unit0 (s := S4096x1024) ![0, 0] (by decide) _ _)).trans ?_)
    blk_simp [iblk]
    first
    | rw [V_main_arg0]
    | rw [V_main_arg1]
    refine congrArg _ ?_
    blk_ext [e0, e1]

theorem cosB (c : Dev nD) (t : Fin cfg0.N) (r : Fin 1024) (d : Fin 128) :
    ((@View.readAt sig (Elt Ideal) (Proc.kind (Proc.tc (τ := τ))) Space.vmem S1024x128 .f32 (ms0_2 t).view (Rect.unit (s := S1024x128) ![0, 0] ![1024, 128] inb_S1024x128_S1024x128_0_0).toLoadRect ((hs0_2 t).unread (iblk m c 2 t)) : Vec Ideal S1024x128 .f32) (ix2 r d) : EReal)
     = Ideal.cos (angAt ((1024 * (grid0.coords t 0).val + r) % 4096) d) := by
  rw [show (1024 * (grid0.coords t 0).val + r) % 4096 = ((⟨(1024 * (grid0.coords t 0).val + r) % 4096, Nat.mod_lt _ (by norm_num)⟩ : Fin 4096) : ℕ) from rfl, ← cos_tab m c]
  refine ((hs0_2 t).readAt_unread _ _ _).trans ((congrArg (iblk m c 2 t) (unit0 (s := S1024x128) ![0, 0] (by decide) _ _)).trans ?_)
  blk_simp [iblk]
  refine congrArg _ ?_
  blk_ext [e2]
theorem sinB (c : Dev nD) (t : Fin cfg0.N) (r : Fin 1024) (d : Fin 128) :
    ((@View.readAt sig (Elt Ideal) (Proc.kind (Proc.tc (τ := τ))) Space.vmem S1024x128 .f32 (ms0_3 t).view (Rect.unit (s := S1024x128) ![0, 0] ![1024, 128] inb_S1024x128_S1024x128_0_0).toLoadRect ((hs0_3 t).unread (iblk m c 3 t)) : Vec Ideal S1024x128 .f32) (ix2 r d) : EReal)
     = if d.val % 64 < 32 then -Ideal.sin (angAt ((1024 * (grid0.coords t 0).val + r) % 4096) d) else Ideal.sin (angAt ((1024 * (grid0.coords t 0).val + r) % 4096) d) := by
  rw [show (1024 * (grid0.coords t 0).val + r) % 4096 = ((⟨(1024 * (grid0.coords t 0).val + r) % 4096, Nat.mod_lt _ (by norm_num)⟩ : Fin 4096) : ℕ) from rfl, ← sin_tab m c]
  refine ((hs0_3 t).readAt_unread _ _ _).trans ((congrArg (iblk m c 3 t) (unit0 (s := S1024x128) ![0, 0] (by decide) _ _)).trans ?_)
  blk_simp [iblk]
  refine congrArg _ ?_
  blk_ext [e3]
theorem knB (c : Dev nD) (t : Fin cfg0.N) (d : Fin 128) :
    ((@View.readAt sig (Elt Ideal) (Proc.kind (Proc.tc (τ := τ))) Space.vmem S1x128 .f32 (ms0_4 t).view (Rect.unit (s := S1x128) ![0, 0] ![1, 128] inb_S1x128_S1x128_0_0).toLoadRect ((hs0_4 t).unread (iblk m c 4 t)) : Vec Ideal S1x128 .f32) (ix2 0 d) : EReal)
     = m ((c : Thread nD τ).loc main_arg2) (ix2 0 d) := by
  refine ((hs0_4 t).readAt_unread _ _ _).trans ((congrArg (iblk m c 4 t) (unit0 (s := S1x128) ![0, 0] (by decide) _ _)).trans ?_)
  blk_simp [iblk]
  rw [V_main_arg2]
  refine congrArg _ ?_
  blk_ext [e4]
theorem snB (c : Dev nD) (t : Fin cfg0.N) (h : 5 ≤ (grid0.coords t 1).val ∧ (grid0.coords t 1).val ≤ 6) (k : Fin 1024) :
    ((@View.readAt sig (Elt Ideal) (Proc.kind (Proc.tc (τ := τ))) Space.vmem S1x1024 .f32 (ms0_5 t).view (Rect.unit (s := S1x1024) ![0, 0] ![1, 1024] inb_S1x1024_S1x1024_0_0).toLoadRect ((hs0_5 t).unread (iblk m c 5 t)) : Vec Ideal S1x1024 .f32) (ix2 0 k) : EReal)
     = (m ((c : Thread nD τ).loc main_arg3) : S1x2048.Idx → EReal) (ix2 0 ⟨1024 * ((grid0.coords t 1).val - 5) + k, by omega⟩) := by
  refine ((hs0_5 t).readAt_unread _ _ _).trans ((congrArg (iblk m c 5 t) (unit0 (s := S1x1024) ![0, 0] (by decide) _ _)).trans ?_)
  blk_simp [iblk]
  rw [V_main_arg3]
  refine congrArg _ ?_
  blk_ext [e5]
end Cert.InProjIdeal.Hand
-- ==== Proof.InProjBlocks.lean ====
module
public import proofs.«01_k».proof.Proof.InProjTabs
public import proofs.«01_k».proof.Proof.Gen.InProjRefIdeal.Read
@[expose] public section
noncomputable section
namespace Cert.InProjIdeal.Hand
open Cert.InProjIdeal Cert.InProjIdeal.Gen Idealize.ShloMosaic Idealize.ShloMosaic.TcCoe Idealize.SL.Sem
set_option pp.proofs false
variable (m : (ℓ : Loc nD τ sig) → Buf (Elt Ideal) ℓ)

/-- The key gain at lane `d`. -/
def gainK (kg : S1x128.Idx → EReal) (d : ℕ) : EReal := if h : d < 128 then kg (ix2 0 ⟨d, h⟩) else 0

/-- One head's row, root-mean-square normalised, at lane `d`. -/
def nrmK (A : ℕ → EReal) (kg : S1x128.Idx → EReal) (d : ℕ) : EReal :=
  A d * Ideal.rsqrt (Ideal.div (∑ x : Fin 128, A x * A x) (Ideal.ofBits FTy.f32 1124073472#32) + Ideal.ofBits FTy.f32 897988541#32) * gainK kg d

/-- One head's row, normalised and rotated by token `n`'s angles, at lane `d`. -/
def rotK (A : ℕ → EReal) (kg : S1x128.Idx → EReal) (n d : ℕ) : EReal :=
  nrmK A kg d * Ideal.cos (angAt n d) +
    if d % 64 < 32 then nrmK A kg (d + 32) * -Ideal.sin (angAt n d) else nrmK A kg (d - 32) * Ideal.sin (angAt n d)

/-- The tanh form of gelu. -/
def gelu (x : EReal) : EReal :=
  x * (Ideal.ofBits FTy.f32 1056964608#32 * (1 + Ideal.tanh (Ideal.ofBits FTy.f32 1061962282#32 *
    (x + Ideal.ofBits FTy.f32 1027024659#32 * (x * (x * x))))))

/-- One group's row through gelu, root-mean-square normalised, at column `d` of the group. -/
def nrmS (A : ℕ → EReal) (d : ℕ) : EReal :=
  gelu (A d) * Ideal.rsqrt (Ideal.div (∑ x : Fin 256, gelu (A x) * gelu (A x)) (Ideal.ofBits FTy.f32 1132462080#32) + Ideal.ofBits FTy.f32 897988541#32)

/-- The gating gain at column `k`. -/
def gainS (sg : S1x2048.Idx → EReal) (k : ℕ) : EReal := if h : k < 2048 then sg (ix2 0 ⟨k, h⟩) else 0

/-- The call's result at row `r`, column `k`. -/
def G (a : S16384x4096.Idx → EReal) (w : S4096x15360.Idx → EReal) (kg : S1x128.Idx → EReal) (sg : S1x2048.Idx → EReal) (r k : ℕ) : EReal :=
  if 2048 ≤ k ∧ k < 2560 then
    rotK (fun x => P a w r (2048 + 128 * ((k - 2048) / 128) + x)) kg (r % 4096) ((k - 2048) % 128)
  else if 5120 ≤ k ∧ k < 7168 then
    nrmS (fun x => P a w r (256 * (k / 256) + x)) (k % 256) * gainS sg (k - 5120)
  else P a w r k

theorem lane : ∀ d : Fin 128, IntOp.cmpi CmpIPredicate.slt (Scalar.select (IntOp.andi (IntOp.xori (IntOp.cmpi CmpIPredicate.slt (IntOp.remsi ArithUnit.vector (BitVec.ofNat 32 d.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 d.val) (Scalar.select (Scalar.cmpi CmpIPredicate.eq 64#32 0#32) 1#32 64#32)) 0#32)) (IntOp.addi (IntOp.remsi ArithUnit.vector (BitVec.ofNat 32 d.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 d.val) (Scalar.select (Scalar.cmpi CmpIPredicate.eq 64#32 0#32) 1#32 64#32))) 32#32 = if d.val % 64 < 32 then 1#1 else 0#1 := by
  decide +kernel

theorem head_eq (A : ℕ → EReal) (kg : S1x128.Idx → EReal) (n d : ℕ) (hd : d < 128) :
    A d * Ideal.rsqrt (Ideal.div (∑ x : Fin 128, A x * A x) (Ideal.ofBits FTy.f32 1124073472#32) + Ideal.ofBits FTy.f32 897988541#32) * kg (ix2 0 ⟨d, hd⟩) * Ideal.cos (angAt n d) +
    Scalar.select (IntOp.cmpi CmpIPredicate.slt (Scalar.select (IntOp.andi (IntOp.xori (IntOp.cmpi CmpIPredicate.slt (IntOp.remsi ArithUnit.vector (BitVec.ofNat 32 d) (Scalar.select (Scalar.cmpi CmpIPredicate.eq 64#32 0#32) 1#32 64#32)) 0#32) (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 d) (Scalar.select (Scalar.cmpi CmpIPredicate.eq 64#32 0#32) 1#32 64#32)) 0#32)) (IntOp.addi (IntOp.remsi ArithUnit.vector (BitVec.ofNat 32 d) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 d) (Scalar.select (Scalar.cmpi CmpIPredicate.eq 64#32 0#32) 1#32 64#32))) 32#32)
      (A ((d + 128 - 96) % 128) * Ideal.rsqrt (Ideal.div (∑ x : Fin 128, A x * A x) (Ideal.ofBits FTy.f32 1124073472#32) + Ideal.ofBits FTy.f32 897988541#32) * kg (ix2 0 ⟨(d + 128 - 96) % 128, by omega⟩))
      (A ((d + 128 - 32) % 128) * Ideal.rsqrt (Ideal.div (∑ x : Fin 128, A x * A x) (Ideal.ofBits FTy.f32 1124073472#32) + Ideal.ofBits FTy.f32 897988541#32) * kg (ix2 0 ⟨(d + 128 - 32) % 128, by omega⟩)) *
      (if d % 64 < 32 then -Ideal.sin (angAt n d) else Ideal.sin (angAt n d))
    = rotK A kg n d := by
  rw [lane ⟨d, hd⟩]
  have e1 : gainK kg d = kg (ix2 0 ⟨d, hd⟩) := dif_pos hd
  unfold rotK nrmK
  rw [e1]
  refine congrArg _ ?_
  by_cases h : d % 64 < 32
  · have e : (d + 128 - 96) % 128 = d + 32 := by omega
    rw [if_pos h, if_pos h, if_pos h, gainK, dif_pos (show d + 32 < 128 by omega)]
    simp only [e]
    rfl
  · have e : (d + 128 - 32) % 128 = d - 32 := by omega
    rw [if_neg h, if_neg h, if_neg h, gainK, dif_pos (show d - 32 < 128 by omega)]
    simp only [e]
    rfl

theorem G_head (a : S16384x4096.Idx → EReal) (w : S4096x15360.Idx → EReal) (kg : S1x128.Idx → EReal) (sg : S1x2048.Idx → EReal) (r k b h d : ℕ)
    (hd : d < 128) (hh : h < 4) (hb : b = 2048 + 128 * h) (hk : k = b + d) :
    rotK (fun x => P a w r (b + x)) kg (r % 4096) d = G a w kg sg r k := by
  subst hb; subst hk
  rw [G, if_pos ⟨by omega, by omega⟩, show (2048 + 128 * h + d - 2048) / 128 = h by omega, show (2048 + 128 * h + d - 2048) % 128 = d by omega]

theorem G_group (a : S16384x4096.Idx → EReal) (w : S4096x15360.Idx → EReal) (kg : S1x128.Idx → EReal) (sg : S1x2048.Idx → EReal) (r k b d j : ℕ)
    (hd : d < 256) (hk : k = b + d) (hb : b % 256 = 0) (h5 : 5120 ≤ k) (h7 : k < 7168) (hj : j < 2048) (ej : j = k - 5120) :
    nrmS (fun x => P a w r (b + x)) d * sg (ix2 0 ⟨j, hj⟩) = G a w kg sg r k := by
  have e : (⟨j, hj⟩ : Fin 2048) = ⟨k - 5120, by omega⟩ := Fin.ext ej
  rw [e, G, if_neg (by omega), if_pos ⟨by omega, by omega⟩, show 256 * (k / 256) = b by omega, show k % 256 = d by omega, gainS, dif_pos (show k - 5120 < 2048 by omega)]

theorem coord1 : ∀ t : Fin cfg0.N, (grid0.coords t 1).val = t.val % 15 := (by decide +kernel : ∀ t : Fin grid0.N, (grid0.coords t 1).val = t.val % 15)

/-- What the body leaves at a grid point. -/
def blockOf (c : Dev nD) (t : Fin cfg0.N) (y : S1024x1024.Idx) : EReal :=
  G (m ((c : Thread nD τ).loc main_arg0)) (m ((c : Thread nD τ).loc main_arg1)) (m ((c : Thread nD τ).loc main_arg2)) (m ((c : Thread nD τ).loc main_arg3))
    (1024 * (grid0.coords t 0).val + y 0) (1024 * (grid0.coords t 1).val + y 1)

set_option maxHeartbeats 2000000 in
theorem blkA (c : Dev nD) (t : Fin cfg0.N) (h0 : ¬(t.val % 15 = 2 ∨ t.val % 15 = 5 ∨ t.val % 15 = 6)) (h1 : ¬t.val % 15 = 2) (h2 : ¬(5 ≤ t.val % 15 ∧ t.val % 15 ≤ 6)) :
   outsAt0 m c t.val t.isLt = blockOf m c t := by
  rw [outsAt0_A m c t h0 h1 h2]
  unfold out0_A_6
  have hcov := cover0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t)
  rw [View.read_writes_eq_canon _ _ _ hcov]
  unfold kernelRun0_A at hcov ⊢
  dsimp only at hcov ⊢
  funext y
  have hc1 := coord1 t
  canon_tiles x h using hcov _
  obtain ⟨r, k, rfl⟩ : ∃ (r k : Fin 1024), x = ix2 r k := ⟨x 0, x 1, by funext a; fin_cases a <;> rfl⟩
  all_goals unfold_payloads
  all_goals pointwise
  simp only [acc_eq m c t]
  have e0 : (y 0).val = r.val := by have := h0; simp at this; omega
  have e1 : (y 1).val = k.val := by have := h1; simp at this; omega
  rw [blockOf, e0, e1, G, if_neg (by omega), if_neg (by omega)]

set_option maxHeartbeats 2000000 in
theorem blkB (c : Dev nD) (t : Fin cfg0.N) (h0 : ¬¬(t.val % 15 = 2 ∨ t.val % 15 = 5 ∨ t.val % 15 = 6)) (h1 : t.val % 15 = 2) (h2 : ¬(5 ≤ t.val % 15 ∧ t.val % 15 ≤ 6)) :
   outsAt0 m c t.val t.isLt = blockOf m c t := by
  rw [outsAt0_B m c t h0 h1 h2]
  unfold out0_B_6
  have hcov := cover0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t)
  rw [View.read_writes_eq_canon _ _ _ hcov]
  unfold kernelRun0_B at hcov ⊢
  dsimp only at hcov ⊢
  funext y
  have hc1 := coord1 t
  canon_tiles x h using hcov _
  all_goals obtain ⟨r, k, rfl⟩ : ∃ (r : Fin 1024) (k : Fin 512), x = ix2 r k := ⟨x 0, x 1, by funext a; fin_cases a <;> rfl⟩
  all_goals (try unfold kernelRun0_B.sl.r_11 kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3 kernelRun0_B.sl.r_2 kernelRun0_B.sl.r_1 kernelRun0_B.sl.r)
  all_goals unfold_payloads
  all_goals pointwise
  all_goals simp only [acc_eq m c t]
  all_goals try simp only [cosB m c t, sinB m c t, knB m c t]
  · have e0 : (y 0).val = r.val := by have := h0; simp at this; omega
    have e1 : (y 1).val = 512 + k.val := by have := h1; simp at this; omega
    rw [blockOf, e0, e1, G, if_neg (by omega), if_neg (by omega)]
  · have e0 : (y 0).val = r.val := by have := h0; simp at this; omega
    have e1 : (y 1).val = k.val := by have := h1; simp at this; omega
    have hk := k.isLt
    have eb : blockOf m c t y = G (m ((c : Thread nD τ).loc main_arg0)) (m ((c : Thread nD τ).loc main_arg1)) (m ((c : Thread nD τ).loc main_arg2)) (m ((c : Thread nD τ).loc main_arg3)) (1024 * (grid0.coords t 0).val + r) (1024 * (grid0.coords t 1).val + k) := by rw [blockOf, e0, e1]
    refine Eq.trans ?_ eb.symm
    clear eb
    by_cases h0 : k.val < 128
    · refine (dif_pos h0).trans ?_
      have hx : k.val < 128 := by omega
      have e := head_eq (fun x => P (m ((c : Thread nD τ).loc main_arg0)) (m ((c : Thread nD τ).loc main_arg1)) (1024 * (grid0.coords t 0).val + r) (1024 * (grid0.coords t 1).val + x)) (m ((c : Thread nD τ).loc main_arg2)) ((1024 * (grid0.coords t 0).val + r) % 4096) (k.val) hx
      beta_reduce at e
      refine e.trans ?_
      refine Eq.trans ?_ (G_head _ _ _ _ _ _ (1024 * (grid0.coords t 1).val + 0) 0 (k.val) hx (by norm_num) (by omega) (by omega))
      simp only [Nat.add_assoc, Nat.zero_add]
    refine (dif_neg h0).trans ?_
    by_cases h1 : k.val - 128 < 128
    · refine (dif_pos h1).trans ?_
      have hx : k.val - 128 < 128 := by omega
      have e := head_eq (fun x => P (m ((c : Thread nD τ).loc main_arg0)) (m ((c : Thread nD τ).loc main_arg1)) (1024 * (grid0.coords t 0).val + r) (1024 * (grid0.coords t 1).val + (128 + x))) (m ((c : Thread nD τ).loc main_arg2)) ((1024 * (grid0.coords t 0).val + r) % 4096) (k.val - 128) hx
      beta_reduce at e
      refine e.trans ?_
      refine Eq.trans ?_ (G_head _ _ _ _ _ _ (1024 * (grid0.coords t 1).val + 128) 1 (k.val - 128) hx (by norm_num) (by omega) (by omega))
      simp only [Nat.add_assoc, Nat.zero_add]
    refine (dif_neg h1).trans ?_
    by_cases h2 : k.val - 128 - 128 < 128
    · refine (dif_pos h2).trans ?_
      have hx : k.val - 128 - 128 < 128 := by omega
      have e := head_eq (fun x => P (m ((c : Thread nD τ).loc main_arg0)) (m ((c : Thread nD τ).loc main_arg1)) (1024 * (grid0.coords t 0).val + r) (1024 * (grid0.coords t 1).val + (256 + x))) (m ((c : Thread nD τ).loc main_arg2)) ((1024 * (grid0.coords t 0).val + r) % 4096) (k.val - 128 - 128) hx
      beta_reduce at e
      refine e.trans ?_
      refine Eq.trans ?_ (G_head _ _ _ _ _ _ (1024 * (grid0.coords t 1).val + 256) 2 (k.val - 128 - 128) hx (by norm_num) (by omega) (by omega))
      simp only [Nat.add_assoc, Nat.zero_add]
    refine (dif_neg h2).trans ?_
    · skip
      have hx : k.val - 128 - 128 - 128 < 128 := by omega
      have e := head_eq (fun x => P (m ((c : Thread nD τ).loc main_arg0)) (m ((c : Thread nD τ).loc main_arg1)) (1024 * (grid0.coords t 0).val + r) (1024 * (grid0.coords t 1).val + (384 + x))) (m ((c : Thread nD τ).loc main_arg2)) ((1024 * (grid0.coords t 0).val + r) % 4096) (k.val - 128 - 128 - 128) hx
      beta_reduce at e
      refine e.trans ?_
      refine Eq.trans ?_ (G_head _ _ _ _ _ _ (1024 * (grid0.coords t 1).val + 384) 3 (k.val - 128 - 128 - 128) hx (by norm_num) (by omega) (by omega))
      simp only [Nat.add_assoc, Nat.zero_add]

set_option maxHeartbeats 2000000 in
theorem blkC (c : Dev nD) (t : Fin cfg0.N) (h0 : ¬¬(t.val % 15 = 2 ∨ t.val % 15 = 5 ∨ t.val % 15 = 6)) (h1 : ¬t.val % 15 = 2) (h2 : (5 ≤ t.val % 15 ∧ t.val % 15 ≤ 6)) :
   outsAt0 m c t.val t.isLt = blockOf m c t := by
  have ht1 : 5 ≤ (grid0.coords t 1).val ∧ (grid0.coords t 1).val ≤ 6 := by rw [coord1]; exact h2
  rw [outsAt0_C m c t h0 h1 h2]
  unfold out0_C_6
  have hcov := cover0_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t)
  rw [View.read_writes_eq_canon _ _ _ hcov]
  unfold kernelRun0_C at hcov ⊢
  dsimp only at hcov ⊢
  funext y
  have hc1 := coord1 t
  canon_tiles x h using hcov _
  all_goals obtain ⟨r, k, rfl⟩ : ∃ (r : Fin 1024) (k : Fin 256), x = ix2 r k := ⟨x 0, x 1, by funext a; fin_cases a <;> rfl⟩
  all_goals (try unfold kernelRun0_C.sl.r_1)
  all_goals (try unfold kernelRun0_C.sl.r)
  all_goals unfold_payloads
  all_goals pointwise
  all_goals simp only [acc_eq m c t]
  all_goals try simp only [snB m c t ht1]
  · have e0 : (y 0).val = r.val := by have := h0; simp at this; omega
    have e1 : (y 1).val = 768 + k.val := by have := h1; simp at this; omega
    have hk := k.isLt
    rw [blockOf, e0, e1]
    refine Eq.trans ?_ (G_group _ _ _ _ _ _ (1024 * (grid0.coords t 1).val + 768) k.val (1024 * ((grid0.coords t 1).val - 5) + (768 + k.val)) k.isLt (by omega) (by omega) (by omega) (by omega) (by omega) (by omega))
    simp only [Nat.add_assoc, Nat.zero_add]
    rfl
  · have e0 : (y 0).val = r.val := by have := h0; simp at this; omega
    have e1 : (y 1).val = 512 + k.val := by have := h1; simp at this; omega
    have hk := k.isLt
    rw [blockOf, e0, e1]
    refine Eq.trans ?_ (G_group _ _ _ _ _ _ (1024 * (grid0.coords t 1).val + 512) k.val (1024 * ((grid0.coords t 1).val - 5) + (512 + k.val)) k.isLt (by omega) (by omega) (by omega) (by omega) (by omega) (by omega))
    simp only [Nat.add_assoc, Nat.zero_add]
    rfl
  · have e0 : (y 0).val = r.val := by have := h0; simp at this; omega
    have e1 : (y 1).val = 256 + k.val := by have := h1; simp at this; omega
    have hk := k.isLt
    rw [blockOf, e0, e1]
    refine Eq.trans ?_ (G_group _ _ _ _ _ _ (1024 * (grid0.coords t 1).val + 256) k.val (1024 * ((grid0.coords t 1).val - 5) + (256 + k.val)) k.isLt (by omega) (by omega) (by omega) (by omega) (by omega) (by omega))
    simp only [Nat.add_assoc, Nat.zero_add]
    rfl
  · have e0 : (y 0).val = r.val := by have := h0; simp at this; omega
    have e1 : (y 1).val = k.val := by have := h1; simp at this; omega
    have hk := k.isLt
    rw [blockOf, e0, e1]
    refine Eq.trans ?_ (G_group _ _ _ _ _ _ (1024 * (grid0.coords t 1).val + 0) k.val (1024 * ((grid0.coords t 1).val - 5) + k.val) k.isLt (by omega) (by omega) (by omega) (by omega) (by omega) (by omega))
    simp only [Nat.add_assoc, Nat.zero_add]
    rfl

/-- Every grid point leaves its block of `G`. -/
theorem blk (c : Dev nD) (t : Fin cfg0.N) : outsAt0 m c t.val t.isLt = blockOf m c t := by
  by_cases h0 : t.val % 15 = 2 ∨ t.val % 15 = 5 ∨ t.val % 15 = 6
  · by_cases h1 : t.val % 15 = 2
    · exact blkB m c t (not_not.mpr h0) h1 (by omega)
    · exact blkC m c t (not_not.mpr h0) h1 (by omega)
  · exact blkA m c t h0 (by omega) (by omega)

set_option maxHeartbeats 2000000 in
/-- The result array after the run is `G` of the arguments. -/
theorem final (c : Dev nD) : (dats m 0 c).arrAt 6 cfg0.N
    = fun i : S16384x15360.Idx => G (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 6 _ (by decide +kernel) fun t hf y => ?_
  blk_simp
  rw [after0_6, blk, blockOf]
  congr 1 <;> blk_simp [e6] <;> omega

end Cert.InProjIdeal.Hand
-- ==== Proof.InProj.lean ====
/-
  The value of the input projection (hand-written). The kernel's result array is `G` of its arguments, block by block; the
  reference's product, key normalisation and rotation, gelu and group normalisation are the same function, index by index.
-/
module

public import proofs.«01_k».proof.Defs
public import proofs.«01_k».proof.Proof.Gen.InProj.Frame
public import proofs.«01_k».proof.Proof.Gen.InProjRefIdeal.Run
public import proofs.«01_k».proof.Proof.Gen.InProjRefIdeal.Read
public import proofs.«01_k».proof.Proof.InProjBlocks
public import Idealize.ShloMosaic.Lib.Pipeline.ValueKit
public import Idealize.ShloMosaic.Lib.Pointwise
public import Idealize.ShloMosaic.Lib.Quiescent

@[expose] public section
noncomputable section
namespace Cert.InProjRefIdeal.Hand
open Cert.InProjRefIdeal Cert.InProjRefIdeal.Gen Cert.InProjRefIdeal.Read Idealize.ShloMosaic Idealize.ShloMosaic.TcCoe Idealize.SL.Sem
open Cert.InProjIdeal.Hand (P G nrmK rotK gelu nrmS gainK gainS ang angAt G_head G_group)

variable (a : S16384x4096.Idx → EReal) (w : S4096x15360.Idx → EReal) (kg : S1x128.Idx → EReal) (sg : S1x2048.Idx → EReal)

/-- The product, by batch, token and column. -/
theorem v3_eq (b : Fin 4) (s : Fin 4096) (k : Fin 15360) : val_main_v3 (F := Ideal) a w (ix3 b s k) = P a w (b * 4096 + s) k := by
  rw [P, dif_pos ⟨by omega, by omega⟩]
  pointwise [val_main_v3, val_main_v2, val_main_v1, val_main_v0]

/-- The normalised keys. -/
theorem v24_eq (b : Fin 4) (s : Fin 4096) (h : Fin 4) (d : Fin 128) : val_main_v24 (F := Ideal) a w kg (ix4 b s h d)
    = nrmK (fun x => P a w (b * 4096 + s) (2048 + h * 128 + x)) kg d := by
  rw [nrmK, gainK, dif_pos d.isLt]
  pointwise [val_main_v24, val_main_v23, val_main_v22, val_main_v21, val_main_v20, val_main_v19, val_main_v18, val_main_v17, val_main_v16, val_main_v15, val_main_v14, val_main_v13, val_main_v12, val_main_v11, val_main_v5, val_main_cst, val_main_cst_0, val_main_cst_1]
  simp only [v3_eq, Nat.add_assoc]

/-- The angles of a token's row. -/
theorem v42_eq (n : Fin 4096) (j : Fin 32) : val_main_v42 (F := Ideal) (ix2 n j) = ang (n / 64) j := by
  pointwise [ang, val_main_v27, val_main_v26, val_main_v25, val_main_v42, val_main_v41, val_main_v40, val_main_v39, val_main_v38, val_main_v37, val_main_v36, val_main_v35, val_main_v34, val_main_v33, val_main_v32, val_main_cst_2, val_main_cst_3]

/-- The angles of a token's column. -/
theorem v47_eq (n : Fin 4096) (j : Fin 32) : val_main_v47 (F := Ideal) (ix2 n j) = ang (n % 64) j := by
  pointwise [ang, val_main_v37, val_main_v36, val_main_v35, val_main_v34, val_main_v33, val_main_v32, val_main_v31, val_main_v30, val_main_v29, val_main_v28, val_main_v47, val_main_v46, val_main_v45, val_main_v44, val_main_v43, val_main_cst_2, val_main_cst_3]

set_option maxHeartbeats 2000000 in
/-- The rotated keys. -/
theorem v80_eq (b : Fin 4) (s : Fin 4096) (h : Fin 4) (d : Fin 128) : val_main_v80 (F := Ideal) a w kg (ix4 b s h d)
    = rotK (fun x => P a w (b * 4096 + s) (2048 + h * 128 + x)) kg s d := by
  unfold val_main_v80
  pointwise [val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48]
  simp only [v24_eq, v42_eq, v47_eq, rotK, angAt]
  generalize (fun x => P a w (b * 4096 + s) (2048 + h * 128 + x)) = A
  have hd := d.isLt
  by_cases h1 : d.val < 32
  · rw [dif_pos h1, if_pos (show d.val % 64 < 32 by omega), if_pos (show d.val < 64 by omega), show d.val % 32 = d.val by omega, show 32 + d.val = d.val + 32 by omega, mul_neg, sub_eq_add_neg]
  rw [dif_neg h1]
  by_cases h2 : d.val - 32 < 32
  · rw [dif_pos h2, if_neg (show ¬d.val % 64 < 32 by omega), if_pos (show d.val < 64 by omega), show d.val % 32 = d.val - 32 by omega, show 32 + (d.val - 32) = d.val by omega]
  rw [dif_neg h2]
  by_cases h3 : d.val - 32 - 32 < 32
  · rw [dif_pos h3, if_pos (show d.val % 64 < 32 by omega), if_neg (show ¬d.val < 64 by omega), show d.val % 32 = d.val - 32 - 32 by omega, show 64 + (d.val - 32 - 32) = d.val by omega, show 96 + (d.val - 32 - 32) = d.val + 32 by omega, mul_neg, sub_eq_add_neg]
  · rw [dif_neg h3, if_neg (show ¬d.val % 64 < 32 by omega), if_neg (show ¬d.val < 64 by omega), show d.val % 32 = d.val - 32 - 32 - 32 by omega, show 96 + (d.val - 32 - 32 - 32) = d.val by omega, show 64 + (d.val - 32 - 32 - 32) = d.val - 32 by omega]

theorem v81_eq (b : Fin 4) (s : Fin 4096) (k : Fin 512) : val_main_v81 (F := Ideal) a w kg (ix3 b s k)
    = val_main_v80 (F := Ideal) a w kg (ix4 b s ⟨k / 128, by omega⟩ ⟨k % 128, by omega⟩) := by
  pointwise [val_main_v81]

/-- The gated half after gelu. -/
theorem v94_eq (b : Fin 4) (s : Fin 4096) (k : Fin 2048) : val_main_v94 (F := Ideal) a w (ix3 b s k) = gelu (P a w (b * 4096 + s) (5120 + k)) := by
  pointwise [val_main_v94, val_main_v93, val_main_v92, val_main_v91, val_main_v90, val_main_v89, val_main_v88, val_main_v87, val_main_v86, val_main_v85, val_main_v84, val_main_v83, val_main_v82, val_main_v8, val_main_cst_4, val_main_cst_5, val_main_cst_6, val_main_cst_7]
  simp only [v3_eq, gelu, mul_assoc]

/-- The gated half, normalised group by group. -/
theorem v110_eq (b : Fin 4) (s : Fin 4096) (k : Fin 2048) : val_main_v110 (F := Ideal) a w sg (ix3 b s k)
    = nrmS (fun x => P a w (b * 4096 + s) (5120 + k / 256 * 256 + x)) (k % 256) * sg (ix2 0 k) := by
  pointwise [val_main_v110, val_main_v109, val_main_v108, val_main_v107, val_main_v106, val_main_v105, val_main_v104, val_main_v103, val_main_v102, val_main_v101, val_main_v100, val_main_v99, val_main_v98, val_main_v97, val_main_v96, val_main_v95, val_main_cst_8, val_main_cst_9, val_main_cst_10]
  simp only [v94_eq, nrmS, Nat.add_assoc]
  rw [show k.val / 256 * 256 + k.val % 256 = k.val by omega]

set_option maxHeartbeats 2000000 in
/-- The whole row, piece by piece. -/
theorem v111_eq (b : Fin 4) (s : Fin 4096) (k : Fin 15360) : val_main_v111 (F := Ideal) a w kg sg (ix3 b s k) = G a w kg sg (b * 4096 + s) k := by
  unfold val_main_v111
  pointwise [val_main_v4, val_main_v6, val_main_v7, val_main_v9, val_main_v10]
  have hk := k.isLt
  have plain (j : ℕ) (hj : j < 15360) (e : j = k.val) (h : ¬(2048 ≤ k.val ∧ k.val < 2560)) (h' : ¬(5120 ≤ k.val ∧ k.val < 7168)) :
      val_main_v3 (F := Ideal) a w (ix3 b s ⟨j, hj⟩) = G a w kg sg (b * 4096 + s) k := by
    subst e
    rw [v3_eq, G, if_neg h, if_neg h']
  by_cases h1 : k.val < 2048
  · exact (dif_pos h1).trans (plain k.val hk rfl (by omega) (by omega))
  refine (dif_neg h1).trans ?_
  by_cases h2 : k.val - 2048 < 512
  · refine (dif_pos h2).trans ?_
    rw [v81_eq, v80_eq]
    have e : s.val = (b.val * 4096 + s.val) % 4096 := by omega
    have eg := G_head a w kg sg (b.val * 4096 + s.val) k.val (2048 + (k.val - 2048) / 128 * 128) ((k.val - 2048) / 128) ((k.val - 2048) % 128) (by omega) (by omega) (by omega) (by omega)
    rw [← e] at eg
    exact eg
  refine (dif_neg h2).trans ?_
  by_cases h3 : k.val - 2048 - 512 < 512
  · exact (dif_pos h3).trans (plain _ _ (by omega) (by omega) (by omega))
  refine (dif_neg h3).trans ?_
  by_cases h4 : k.val - 2048 - 512 - 512 < 2048
  · exact (dif_pos h4).trans (plain _ _ (by omega) (by omega) (by omega))
  refine (dif_neg h4).trans ?_
  by_cases h5 : k.val - 2048 - 512 - 512 - 2048 < 2048
  · refine (dif_pos h5).trans ?_
    rw [v110_eq]
    exact G_group a w kg sg (b.val * 4096 + s.val) k.val (5120 + (k.val - 2048 - 512 - 512 - 2048) / 256 * 256) ((k.val - 2048 - 512 - 512 - 2048) % 256) (k.val - 2048 - 512 - 512 - 2048) (by omega) (by omega) (by omega) (by omega) (by omega) h5 (by omega)
  refine (dif_neg h5).trans ?_
  by_cases h6 : k.val - 2048 - 512 - 512 - 2048 - 2048 < 4096
  · exact (dif_pos h6).trans (plain _ _ (by omega) (by omega) (by omega))
  · exact (dif_neg h6).trans (plain _ _ (by omega) (by omega) (by omega))

/-- The reference's term is `G`. -/
theorem ref_eq : val_main_v113 (F := Ideal) a w kg sg = fun i => G a w kg sg (i 0) (i 1) := by
  funext i
  obtain ⟨r, k, rfl⟩ : ∃ (r : Fin 16384) (k : Fin 15360), i = ix2 r k := ⟨i 0, i 1, by funext a; fin_cases a <;> rfl⟩
  have h : val_main_v113 (F := Ideal) a w kg sg (ix2 r k)
      = val_main_v111 (F := Ideal) a w kg sg (ix3 ⟨r / 4096, by omega⟩ ⟨r % 4096, by omega⟩ k) := by
    pointwise [val_main_v113, val_main_v112]
  rw [h, v111_eq]
  have e : r.val / 4096 * 4096 + r.val % 4096 = r.val := by omega
  show G a w kg sg (r.val / 4096 * 4096 + r.val % 4096) k = G a w kg sg r k
  rw [e]

end Cert.InProjRefIdeal.Hand

namespace Cert.Proof.InProj

open Idealize.ShloMosaic Idealize.SL.Sem

theorem frame_p : Cert.quiescent_InProj (hInProj := Cert.InProj.Gen.facts) := fun m ρ _ => Cert.InProj.Gen.frame m ρ
theorem frame_pi : Cert.quiescent_InProjIdeal (hInProjIdeal := Cert.InProjIdeal.Gen.facts) :=
  fun m ρ _ => Cert.InProjIdeal.Gen.frame m ρ
theorem frame_ri : Cert.quiescent_InProjRefIdeal (hInProjRefIdeal := Cert.InProjRefIdeal.Gen.facts) := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

theorem preserves : Cert.preserves_InProj_InProjIdeal := trivial

/-- Both programs end with `G` of equal arguments. -/
theorem algebraic : Cert.algebraic_InProjIdeal_InProjRefIdeal (hInProjIdeal := Cert.InProjIdeal.Gen.facts)
    (hInProjRefIdeal := Cert.InProjRefIdeal.Gen.facts) := by
  intro m g m' g' _ hargs
  refine ⟨fun c => fun i => Cert.InProjIdeal.Hand.G (m ((c.tc : Thread _ _).loc Cert.InProjIdeal.main_arg0))
      (m ((c.tc : Thread _ _).loc Cert.InProjIdeal.main_arg1)) (m ((c.tc : Thread _ _).loc Cert.InProjIdeal.main_arg2))
      (m ((c.tc : Thread _ _).loc Cert.InProjIdeal.main_arg3)) (i 0) (i 1),
    (θ_run Cert.InProjIdeal.defs _ _).mono
      (fun r h c => ⟨(h c).1.trans (Cert.InProjIdeal.Hand.final m c), (h c).2⟩) (Cert.InProjIdeal.Value.run_blocks m g), ?_⟩
  refine (θ_run Cert.InProjRefIdeal.defs _ _).mono (fun r h c => ⟨?_, (h c).2⟩) (Cert.InProjRefIdeal.Value.run (F := Ideal) m' g')
  rw [(h c).1, Cert.InProjRefIdeal.Read.val_main_v113_eq, (hargs c).1, (hargs c).2.1, (hargs c).2.2.1, (hargs c).2.2.2]
  exact Cert.InProjRefIdeal.Hand.ref_eq _ _ _ _

end Cert.Proof.InProj

end
-- ==== Proof.ExpDown.lean ====
/-
  The value of the experts' second product (hand-written). The kernel's result array, block by block, is an expert's rows
  times its matrix, each row scaled by its gate (`G`); the reference's einsum and scaling are the same function.
-/
module

public import proofs.«01_k».proof.Defs
public import proofs.«01_k».proof.Proof.Gen.ExpDown.Frame
public import proofs.«01_k».proof.Proof.Gen.ExpDownIdeal.Value
public import proofs.«01_k».proof.Proof.Gen.ExpDownRefIdeal.Run
public import proofs.«01_k».proof.Proof.Gen.ExpDownRefIdeal.Read
public import Idealize.ShloMosaic.Lib.Pipeline.ValueKit
public import Idealize.ShloMosaic.Lib.Pointwise
public import Idealize.ShloMosaic.Lib.Quiescent

@[expose] public section
noncomputable section
namespace Cert.ExpDownIdeal.Hand
open Cert.ExpDownIdeal Cert.ExpDownIdeal.Gen Idealize.ShloMosaic Idealize.ShloMosaic.TcCoe Idealize.SL.Sem
open Idealize.ShloMosaic.Pipeline (Dat)

/-- The weighted product of an expert's rows with its matrix, at an index. -/
def G (a : S16x4x512x2048.Idx → EReal) (w : S16x2048x4096.Idx → EReal) (g : S4x16x512x1.Idx → EReal) (i : S16x4x512x4096.Idx) : EReal :=
  (∑ k : Fin 2048, a (ix4 (i 0) (i 1) (i 2) k) * w (ix3 (i 0) k (i 3))) * g (ix4 (i 1) (i 0) (i 2) 0)

variable (m : (ℓ : Loc nD τ sig) → Buf (Elt Ideal) ℓ)

set_option maxHeartbeats 2000000 in
/-- The result array after the run is `G` of the arguments: what each grid point writes back is its block of `G`. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 : ∀ t : Fin cfg0.N, win0_0.index t = ![(grid0.coords t 0).val, 0, 0, 0] := (by decide +kernel : ∀ t : Fin grid0.N, _)
  have e1 : ∀ t : Fin cfg0.N, win0_1.index t = ![(grid0.coords t 0).val, 0, (grid0.coords t 1).val] := (by decide +kernel : ∀ t : Fin grid0.N, _)
  have e2 : ∀ t : Fin cfg0.N, win0_2.index t = ![0, (grid0.coords t 0).val, 0, 0] := (by decide +kernel : ∀ t : Fin grid0.N, _)
  have e3 : ∀ t : Fin cfg0.N, win0_3.index t = ![(grid0.coords t 0).val, 0, 0, (grid0.coords t 1).val] := (by decide +kernel : ∀ t : Fin grid0.N, _)
  blk_simp
  rw [after0_3]
  unfold out0_3 k0_pay6
  canon_tiles x h using cover0_3 ..
  all_goals unfold_payloads
  all_goals pointwise [G]
  all_goals
    blk_simp [iblk]
    rw [V_main_arg0, V_main_arg1, V_main_arg2]
    refine Ideal.mul_congr (Finset.sum_congr rfl fun k _ => Ideal.mul_congr (congrArg _ ?_) (congrArg _ ?_)) (congrArg _ ?_) <;>
      blk_ext [e0, e1, e2, e3]

/-- The reference's term is `G`. -/
theorem ref_eq (a : S16x4x512x2048.Idx → EReal) (w : S16x2048x4096.Idx → EReal) (g : S4x16x512x1.Idx → EReal) :
    Cert.ExpDownRefIdeal.Read.val_main_v5 (F := Ideal) a w g = G a w g := by
  funext i
  pointwise [G, Cert.ExpDownRefIdeal.Read.val_main_v5, Cert.ExpDownRefIdeal.Read.val_main_v4, Cert.ExpDownRefIdeal.Read.val_main_v3, Cert.ExpDownRefIdeal.Read.val_main_v2, Cert.ExpDownRefIdeal.Read.val_main_v1, Cert.ExpDownRefIdeal.Read.val_main_v0]

end Cert.ExpDownIdeal.Hand

namespace Cert.Proof.ExpDown

open Idealize.ShloMosaic Idealize.SL.Sem

theorem frame_p : Cert.quiescent_ExpDown (hExpDown := Cert.ExpDown.Gen.facts) := fun m ρ _ => Cert.ExpDown.Gen.frame m ρ
theorem frame_pi : Cert.quiescent_ExpDownIdeal (hExpDownIdeal := Cert.ExpDownIdeal.Gen.facts) :=
  fun m ρ _ => Cert.ExpDownIdeal.Gen.frame m ρ
theorem frame_ri : Cert.quiescent_ExpDownRefIdeal (hExpDownRefIdeal := Cert.ExpDownRefIdeal.Gen.facts) := fun m ρ _ =>
  (θ_run Cert.ExpDownRefIdeal.defs _ _).mono (fun r h => ⟨fun c => (h c).2,
      Idealize.ShloMosaic.sem_eq_zero_of_no_sems (by decide) r.2⟩)
    (Cert.ExpDownRefIdeal.Value.run (F := Ideal) m ρ)

theorem preserves : Cert.preserves_ExpDown_ExpDownIdeal := trivial

/-- Both programs end with `G` of equal arguments. -/
theorem algebraic : Cert.algebraic_ExpDownIdeal_ExpDownRefIdeal (hExpDownIdeal := Cert.ExpDownIdeal.Gen.facts)
    (hExpDownRefIdeal := Cert.ExpDownRefIdeal.Gen.facts) := by
  intro m g m' g' _ hargs
  refine ⟨fun c => Cert.ExpDownIdeal.Hand.G (m ((c.tc : Thread _ _).loc Cert.ExpDownIdeal.main_arg0))
      (m ((c.tc : Thread _ _).loc Cert.ExpDownIdeal.main_arg1)) (m ((c.tc : Thread _ _).loc Cert.ExpDownIdeal.main_arg2)),
    (θ_run Cert.ExpDownIdeal.defs _ _).mono
      (fun r h c => ⟨(h c).1.trans (Cert.ExpDownIdeal.Hand.final m c), (h c).2⟩) (Cert.ExpDownIdeal.Value.run_blocks m g), ?_⟩
  refine (θ_run Cert.ExpDownRefIdeal.defs _ _).mono (fun r h c => ⟨?_, (h c).2⟩) (Cert.ExpDownRefIdeal.Value.run (F := Ideal) m' g')
  rw [(h c).1, (hargs c).1, (hargs c).2.1, (hargs c).2.2, Cert.ExpDownRefIdeal.Read.val_main_v5_eq]
  exact Cert.ExpDownIdeal.Hand.ref_eq _ _ _

end Cert.Proof.ExpDown

end
-- ==== Proof.MergeLoads.lean ====
module
public import proofs.«01_k».proof.Proof.Gen.MergeIdeal.Value
public import Idealize.ShloMosaic.Lib.Pipeline.ValueKit
public import Idealize.ShloMosaic.Lib.Pointwise
public import Idealize.ShloMosaic.Lib.WholeRead
public import Idealize.ShloMosaic.Lib.StableHlo.ReadAt
@[expose] public section
noncomputable section
namespace Cert.MergeIdeal.Hand
open Cert.MergeIdeal Cert.MergeIdeal.Gen Idealize.ShloMosaic Idealize.ShloMosaic.TcCoe Idealize.SL.Sem
set_option pp.proofs false
variable (m : (ℓ : Loc nD τ sig) → Buf (Elt Ideal) ℓ)

/-- The projection at row `r`, column `k`. -/
def X (a : S16384x15360.Idx → EReal) (r k : ℕ) : EReal := if h : r < 16384 ∧ k < 15360 then a (ix2 ⟨r, h.1⟩ ⟨k, h.2⟩) else 0

/-- The mixing weight of group `g` at `p`, `q`. -/
def Wt (w : S8x128x128.Idx → EReal) (g p q : ℕ) : EReal :=
  if h : g < 8 ∧ p < 128 ∧ q < 128 then w (ix3 ⟨g, h.1⟩ ⟨p, h.2.1⟩ ⟨q, h.2.2⟩) else 0

/-- The mixing bias of group `g` at `p`. -/
def Bs (b : S8x128.Idx → EReal) (g p : ℕ) : EReal := if h : g < 8 ∧ p < 128 then b (ix2 ⟨g, h.1⟩ ⟨p, h.2⟩) else 0

/-- The tanh form of gelu. -/
def gelu (x : EReal) : EReal :=
  x * (Ideal.ofBits FTy.f32 1056964608#32 * (1 + Ideal.tanh (Ideal.ofBits FTy.f32 1061962282#32 *
    (x + Ideal.ofBits FTy.f32 1027024659#32 * (x * (x * x))))))

/-- The gated value of chunk `n`, row `p` of the chunk, group `g`, column `k`. -/
def SG (a : S16384x15360.Idx → EReal) (w : S8x128x128.Idx → EReal) (b : S8x128.Idx → EReal) (n p g k : ℕ) : EReal :=
  gelu (X a (128 * n + p) (3072 + k)) * (∑ q : Fin 128, Wt w g p q * X a (128 * n + q) (5120 + k) + Bs b g p)

theorem e0 : ∀ t : Fin cfg0.N, win0_0.index t = ![(grid0.coords t 0).val, 0] := (by decide +kernel : ∀ t : Fin grid0.N, _)
theorem e1 : ∀ t : Fin cfg0.N, win0_1.index t = ![(grid0.coords t 0).val, 3] := (by decide +kernel : ∀ t : Fin grid0.N, _)
theorem e2 : ∀ t : Fin cfg0.N, win0_2.index t = ![(grid0.coords t 0).val, 4] := (by decide +kernel : ∀ t : Fin grid0.N, _)
theorem e3 : ∀ t : Fin cfg0.N, win0_3.index t = ![(grid0.coords t 0).val, 5] := (by decide +kernel : ∀ t : Fin grid0.N, _)
theorem e4 : ∀ t : Fin cfg0.N, win0_4.index t = ![(grid0.coords t 0).val, 6] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, (grid0.coords t 1).val] := (by decide +kernel : ∀ t : Fin grid0.N, _)
theorem e8 : ∀ t : Fin cfg0.N, win0_8.index t = ![0, (grid0.coords t 1).val] := (by decide +kernel : ∀ t : Fin grid0.N, _)
theorem e9 : ∀ t : Fin cfg0.N, win0_9.index t = ![(grid0.coords t 0).val, 7 + (grid0.coords t 1).val] := (by decide +kernel : ∀ t : Fin grid0.N, _)
theorem e10 : ∀ t : Fin cfg0.N, win0_10.index t = ![(grid0.coords t 0).val, 11 + (grid0.coords t 1).val] := (by decide +kernel : ∀ t : Fin grid0.N, _)
theorem e11 : ∀ t : Fin cfg0.N, win0_11.index t = ![(grid0.coords t 0).val, (grid0.coords t 1).val] := (by decide +kernel : ∀ t : Fin grid0.N, _)
theorem c0_lt (t : Fin cfg0.N) : (grid0.coords t 0).val < 32 := (grid0.coords t 0).isLt
theorem c1_lt (t : Fin cfg0.N) : (grid0.coords t 1).val < 4 := (grid0.coords t 1).isLt
theorem coord0 : ∀ t : Fin cfg0.N, (grid0.coords t 0).val = t.val / 4 := (by decide +kernel : ∀ t : Fin grid0.N, _)

theorem unit0 {s : Shape} (off : Fin s.rank → ℕ) (h : ∀ a, off a = 0) (inb : ∀ a, off a + s.size a ≤ s.size a)
    (x : s.Idx) : (Rect.unit off s.size inb).toLoadRect.idx x = x := by
  funext a
  apply Fin.ext
  show off a + 1 * (x a : ℕ) = x a
  rw [h]; omega

abbrev A0 (c : Dev nD) : S16384x2048.Idx → EReal := m ((c : Thread nD τ).loc main_arg0)
abbrev A1 (c : Dev nD) : S16384x15360.Idx → EReal := m ((c : Thread nD τ).loc main_arg1)
abbrev A2 (c : Dev nD) : S8x128x128.Idx → EReal := m ((c : Thread nD τ).loc main_arg2)
abbrev A3 (c : Dev nD) : S8x128.Idx → EReal := m ((c : Thread nD τ).loc main_arg3)
abbrev A4 (c : Dev nD) : S2048x4096.Idx → EReal := m ((c : Thread nD τ).loc main_arg4)
abbrev A5 (c : Dev nD) : S2048x4096.Idx → EReal := m ((c : Thread nD τ).loc main_arg5)

/-- The bias table the call reads: the transposed bias. -/
theorem sb_tab (c : Dev nD) (p : Fin 128) (g : Fin 8) :
    ((V m c main_v0 : (⟨S128x8, .f32⟩ : BufTy).Contents (Elt Ideal)) (ix2 p g) : EReal) = A3 m c (ix2 g p) := by
  unfold V
  after_reads_at

theorem ld1 (c : Dev nD) (t : Fin cfg0.N) (o0 o1 : ℕ) (inb : ∀ a, (![o0, o1] : Fin 2 → ℕ) a + (![128, 256] : Fin 2 → ℕ) a ≤ S512x1024.size a) (p : Fin 128) (d : Fin 256) :
    ((@View.readAt sig (Elt Ideal) (Proc.kind (Proc.tc (τ := τ))) Space.vmem S512x1024 .bf16 (ms0_1 t).view (Rect.unit (s := S512x1024) ![o0, o1] ![128, 256] inb).toLoadRect ((hs0_1 t).unread (iblk m c 1 t)) : Vec Ideal S128x256 .bf16) (ix2 p d) : EReal)
     = X (A1 m c) (512 * (grid0.coords t 0).val + o0 + p) (3072 + o1 + d) := by
  have h0 := c0_lt t
  have i0 : o0 + 128 ≤ 512 := inb 0
  have i1 : o1 + 256 ≤ 1024 := inb 1
  rw [X, dif_pos ⟨by omega, by omega⟩]
  refine ((hs0_1 t).readAt_unread _ _ _).trans ?_
  blk_simp [iblk]
  rw [V_main_arg1]
  refine congrArg _ ?_
  blk_ext [e1]
  · show _ + (o0 + 1 * p.val) = _
    omega
  · show _ + (o1 + 1 * d.val) = _
    omega

theorem ld1' (c : Dev nD) (t : Fin cfg0.N) (o0 o1 : ℕ) (inb : ∀ a, (![o0, o1] : Fin 2 → ℕ) a + (S128x256.size : Fin 2 → ℕ) a ≤ S512x1024.size a) (p : Fin 128) (d : Fin 256) :
    ((@View.readAt sig (Elt Ideal) (Proc.kind (Proc.tc (τ := τ))) Space.vmem S512x1024 .bf16 (ms0_1 t).view (Rect.unit (s := S512x1024) ![o0, o1] S128x256.size inb).toLoadRect ((hs0_1 t).unread (iblk m c 1 t)) : Vec Ideal S128x256 .bf16) (ix2 p d) : EReal)
     = X (A1 m c) (512 * (grid0.coords t 0).val + o0 + p) (3072 + o1 + d) := by
  have h0 := c0_lt t
  have i0 : o0 + 128 ≤ 512 := inb 0
  have i1 : o1 + 256 ≤ 1024 := inb 1
  rw [X, dif_pos ⟨by omega, by omega⟩]
  refine ((hs0_1 t).readAt_unread _ _ _).trans ?_
  blk_simp [iblk]
  rw [V_main_arg1]
  refine congrArg _ ?_
  blk_ext [e1]
  · show _ + (o0 + 1 * p.val) = _
    omega
  · show _ + (o1 + 1 * d.val) = _
    omega

theorem ld2 (c : Dev nD) (t : Fin cfg0.N) (o0 o1 : ℕ) (inb : ∀ a, (![o0, o1] : Fin 2 → ℕ) a + (![128, 256] : Fin 2 → ℕ) a ≤ S512x1024.size a) (p : Fin 128) (d : Fin 256) :
    ((@View.readAt sig (Elt Ideal) (Proc.kind (Proc.tc (τ := τ))) Space.vmem S512x1024 .bf16 (ms0_2 t).view (Rect.unit (s := S512x1024) ![o0, o1] ![128, 256] inb).toLoadRect ((hs0_2 t).unread (iblk m c 2 t)) : Vec Ideal S128x256 .bf16) (ix2 p d) : EReal)
     = X (A1 m c) (512 * (grid0.coords t 0).val + o0 + p) (4096 + o1 + d) := by
  have h0 := c0_lt t
  have i0 : o0 + 128 ≤ 512 := inb 0
  have i1 : o1 + 256 ≤ 1024 := inb 1
  rw [X, dif_pos ⟨by omega, by omega⟩]
  refine ((hs0_2 t).readAt_unread _ _ _).trans ?_
  blk_simp [iblk]
  rw [V_main_arg1]
  refine congrArg _ ?_
  blk_ext [e2]
  · show _ + (o0 + 1 * p.val) = _
    omega
  · show _ + (o1 + 1 * d.val) = _
    omega

theorem ld2' (c : Dev nD) (t : Fin cfg0.N) (o0 o1 : ℕ) (inb : ∀ a, (![o0, o1] : Fin 2 → ℕ) a + (S128x256.size : Fin 2 → ℕ) a ≤ S512x1024.size a) (p : Fin 128) (d : Fin 256) :
    ((@View.readAt sig (Elt Ideal) (Proc.kind (Proc.tc (τ := τ))) Space.vmem S512x1024 .bf16 (ms0_2 t).view (Rect.unit (s := S512x1024) ![o0, o1] S128x256.size inb).toLoadRect ((hs0_2 t).unread (iblk m c 2 t)) : Vec Ideal S128x256 .bf16) (ix2 p d) : EReal)
     = X (A1 m c) (512 * (grid0.coords t 0).val + o0 + p) (4096 + o1 + d) := by
  have h0 := c0_lt t
  have i0 : o0 + 128 ≤ 512 := inb 0
  have i1 : o1 + 256 ≤ 1024 := inb 1
  rw [X, dif_pos ⟨by omega, by omega⟩]
  refine ((hs0_2 t).readAt_unread _ _ _).trans ?_
  blk_simp [iblk]
  rw [V_main_arg1]
  refine congrArg _ ?_
  blk_ext [e2]
  · show _ + (o0 + 1 * p.val) = _
    omega
  · show _ + (o1 + 1 * d.val) = _
    omega

theorem ld3 (c : Dev nD) (t : Fin cfg0.N) (o0 o1 : ℕ) (inb : ∀ a, (![o0, o1] : Fin 2 → ℕ) a + (![128, 256] : Fin 2 → ℕ) a ≤ S512x1024.size a) (p : Fin 128) (d : Fin 256) :
    ((@View.readAt sig (Elt Ideal) (Proc.kind (Proc.tc (τ := τ))) Space.vmem S512x1024 .bf16 (ms0_3 t).view (Rect.unit (s := S512x1024) ![o0, o1] ![128, 256] inb).toLoadRect ((hs0_3 t).unread (iblk m c 3 t)) : Vec Ideal S128x256 .bf16) (ix2 p d) : EReal)
     = X (A1 m c) (512 * (grid0.coords t 0).val + o0 + p) (5120 + o1 + d) := by
  have h0 := c0_lt t
  have i0 : o0 + 128 ≤ 512 := inb 0
  have i1 : o1 + 256 ≤ 1024 := inb 1
  rw [X, dif_pos ⟨by omega, by omega⟩]
  refine ((hs0_3 t).readAt_unread _ _ _).trans ?_
  blk_simp [iblk]
  rw [V_main_arg1]
  refine congrArg _ ?_
  blk_ext [e3]
  · show _ + (o0 + 1 * p.val) = _
    omega
  · show _ + (o1 + 1 * d.val) = _
    omega

theorem ld3' (c : Dev nD) (t : Fin cfg0.N) (o0 o1 : ℕ) (inb : ∀ a, (![o0, o1] : Fin 2 → ℕ) a + (S128x256.size : Fin 2 → ℕ) a ≤ S512x1024.size a) (p : Fin 128) (d : Fin 256) :
    ((@View.readAt sig (Elt Ideal) (Proc.kind (Proc.tc (τ := τ))) Space.vmem S512x1024 .bf16 (ms0_3 t).view (Rect.unit (s := S512x1024) ![o0, o1] S128x256.size inb).toLoadRect ((hs0_3 t).unread (iblk m c 3 t)) : Vec Ideal S128x256 .bf16) (ix2 p d) : EReal)
     = X (A1 m c) (512 * (grid0.coords t 0).val + o0 + p) (5120 + o1 + d) := by
  have h0 := c0_lt t
  have i0 : o0 + 128 ≤ 512 := inb 0
  have i1 : o1 + 256 ≤ 1024 := inb 1
  rw [X, dif_pos ⟨by omega, by omega⟩]
  refine ((hs0_3 t).readAt_unread _ _ _).trans ?_
  blk_simp [iblk]
  rw [V_main_arg1]
  refine congrArg _ ?_
  blk_ext [e3]
  · show _ + (o0 + 1 * p.val) = _
    omega
  · show _ + (o1 + 1 * d.val) = _
    omega

theorem ld4 (c : Dev nD) (t : Fin cfg0.N) (o0 o1 : ℕ) (inb : ∀ a, (![o0, o1] : Fin 2 → ℕ) a + (![128, 256] : Fin 2 → ℕ) a ≤ S512x1024.size a) (p : Fin 128) (d : Fin 256) :
    ((@View.readAt sig (Elt Ideal) (Proc.kind (Proc.tc (τ := τ))) Space.vmem S512x1024 .bf16 (ms0_4 t).view (Rect.unit (s := S512x1024) ![o0, o1] ![128, 256] inb).toLoadRect ((hs0_4 t).unread (iblk m c 4 t)) : Vec Ideal S128x256 .bf16) (ix2 p d) : EReal)
     = X (A1 m c) (512 * (grid0.coords t 0).val + o0 + p) (6144 + o1 + d) := by
  have h0 := c0_lt t
  have i0 : o0 + 128 ≤ 512 := inb 0
  have i1 : o1 + 256 ≤ 1024 := inb 1
  rw [X, dif_pos ⟨by omega, by omega⟩]
  refine ((hs0_4 t).readAt_unread _ _ _).trans ?_
  blk_simp [iblk]
  rw [V_main_arg1]
  refine congrArg _ ?_
  blk_ext [e4]
  · show _ + (o0 + 1 * p.val) = _
    omega
  · show _ + (o1 + 1 * d.val) = _
    omega

theorem ld4' (c : Dev nD) (t : Fin cfg0.N) (o0 o1 : ℕ) (inb : ∀ a, (![o0, o1] : Fin 2 → ℕ) a + (S128x256.size : Fin 2 → ℕ) a ≤ S512x1024.size a) (p : Fin 128) (d : Fin 256) :
    ((@View.readAt sig (Elt Ideal) (Proc.kind (Proc.tc (τ := τ))) Space.vmem S512x1024 .bf16 (ms0_4 t).view (Rect.unit (s := S512x1024) ![o0, o1] S128x256.size inb).toLoadRect ((hs0_4 t).unread (iblk m c 4 t)) : Vec Ideal S128x256 .bf16) (ix2 p d) : EReal)
     = X (A1 m c) (512 * (grid0.coords t 0).val + o0 + p) (6144 + o1 + d) := by
  have h0 := c0_lt t
  have i0 : o0 + 128 ≤ 512 := inb 0
  have i1 : o1 + 256 ≤ 1024 := inb 1
  rw [X, dif_pos ⟨by omega, by omega⟩]
  refine ((hs0_4 t).readAt_unread _ _ _).trans ?_
  blk_simp [iblk]
  rw [V_main_arg1]
  refine congrArg _ ?_
  blk_ext [e4]
  · show _ + (o0 + 1 * p.val) = _
    omega
  · show _ + (o1 + 1 * d.val) = _
    omega

theorem ld5 (c : Dev nD) (t : Fin cfg0.N) (g : ℕ) (inb : ∀ a, (![g, 0, 0] : Fin 3 → ℕ) a + (![1, 128, 128] : Fin 3 → ℕ) a ≤ S8x128x128.size a) (p q : Fin 128) :
    ((@View.readAt sig (Elt Ideal) (Proc.kind (Proc.tc (τ := τ))) Space.vmem S8x128x128 .f32 (ms0_5 t).view (Rect.unit (s := S8x128x128) ![g, 0, 0] ![1, 128, 128] inb).toLoadRect ((hs0_5 t).unread (iblk m c 5 t)) : Vec Ideal S1x128x128 .f32) (ix3 0 p q) : EReal)
     = Wt (A2 m c) g p q := by
  have i0 : g + 1 ≤ 8 := inb 0
  rw [Wt, dif_pos ⟨by omega, by omega, by omega⟩]
  refine ((hs0_5 t).readAt_unread _ _ _).trans ?_
  blk_simp [iblk]
  rw [V_main_arg2]
  refine congrArg _ ?_
  blk_ext [e5]
  · show g + 1 * 0 = _
    omega
  · show 0 + 1 * p.val = _
    omega
  · show 0 + 1 * q.val = _
    omega

theorem ld5' (c : Dev nD) (t : Fin cfg0.N) (g : ℕ) (inb : ∀ a, (![g, 0, 0] : Fin 3 → ℕ) a + (S1x128x128.size : Fin 3 → ℕ) a ≤ S8x128x128.size a) (p q : Fin 128) :
    ((@View.readAt sig (Elt Ideal) (Proc.kind (Proc.tc (τ := τ))) Space.vmem S8x128x128 .f32 (ms0_5 t).view (Rect.unit (s := S8x128x128) ![g, 0, 0] S1x128x128.size inb).toLoadRect ((hs0_5 t).unread (iblk m c 5 t)) : Vec Ideal S1x128x128 .f32) (ix3 0 p q) : EReal)
     = Wt (A2 m c) g p q := by
  have i0 : g + 1 ≤ 8 := inb 0
  rw [Wt, dif_pos ⟨by omega, by omega, by omega⟩]
  refine ((hs0_5 t).readAt_unread _ _ _).trans ?_
  blk_simp [iblk]
  rw [V_main_arg2]
  refine congrArg _ ?_
  blk_ext [e5]
  · show g + 1 * 0 = _
    omega
  · show 0 + 1 * p.val = _
    omega
  · show 0 + 1 * q.val = _
    omega

theorem ld6 (c : Dev nD) (t : Fin cfg0.N) (g : ℕ) (inb : ∀ a, (![0, g] : Fin 2 → ℕ) a + (![128, 1] : Fin 2 → ℕ) a ≤ S128x8.size a) (p : Fin 128) :
    ((@View.readAt sig (Elt Ideal) (Proc.kind (Proc.tc (τ := τ))) Space.vmem S128x8 .f32 (ms0_6 t).view (Rect.unit (s := S128x8) ![0, g] ![128, 1] inb).toLoadRect ((hs0_6 t).unread (iblk m c 6 t)) : Vec Ideal S128x1 .f32) (ix2 p 0) : EReal)
     = Bs (A3 m c) g p := by
  have i0 : g + 1 ≤ 8 := inb 1
  rw [Bs, dif_pos ⟨by omega, by omega⟩]
  refine ((hs0_6 t).readAt_unread _ _ _).trans ?_
  blk_simp [iblk]
  refine (congrArg (V m c main_v0) (show _ = (ix2 p ⟨g, by omega⟩ : S128x8.Idx) from ?_)).trans (sb_tab m c p ⟨g, by omega⟩)
  blk_ext [e6]
  · show 0 + 1 * p.val = _
    omega
  · show g + 1 * 0 = _
    omega

theorem ld6' (c : Dev nD) (t : Fin cfg0.N) (g : ℕ) (inb : ∀ a, (![0, g] : Fin 2 → ℕ) a + (S128x1.size : Fin 2 → ℕ) a ≤ S128x8.size a) (p : Fin 128) :
    ((@View.readAt sig (Elt Ideal) (Proc.kind (Proc.tc (τ := τ))) Space.vmem S128x8 .f32 (ms0_6 t).view (Rect.unit (s := S128x8) ![0, g] S128x1.size inb).toLoadRect ((hs0_6 t).unread (iblk m c 6 t)) : Vec Ideal S128x1 .f32) (ix2 p 0) : EReal)
     = Bs (A3 m c) g p := by
  have i0 : g + 1 ≤ 8 := inb 1
  rw [Bs, dif_pos ⟨by omega, by omega⟩]
  refine ((hs0_6 t).readAt_unread _ _ _).trans ?_
  blk_simp [iblk]
  refine (congrArg (V m c main_v0) (show _ = (ix2 p ⟨g, by omega⟩ : S128x8.Idx) from ?_)).trans (sb_tab m c p ⟨g, by omega⟩)
  blk_ext [e6]
  · show 0 + 1 * p.val = _
    omega
  · show g + 1 * 0 = _
    omega

/-- The attention rows. -/
def Y (a : S16384x2048.Idx → EReal) (r k : ℕ) : EReal := if h : r < 16384 ∧ k < 2048 then a (ix2 ⟨r, h.1⟩ ⟨k, h.2⟩) else 0

/-- A branch's weights. -/
def W (a : S2048x4096.Idx → EReal) (r k : ℕ) : EReal := if h : r < 2048 ∧ k < 4096 then a (ix2 ⟨r, h.1⟩ ⟨k, h.2⟩) else 0

theorem ld0 (c : Dev nD) (t : Fin cfg0.N) (inb : ∀ a, (![0, 0] : Fin 2 → ℕ) a + (![512, 2048] : Fin 2 → ℕ) a ≤ S512x2048.size a) (p : Fin 512) (d : Fin 2048) :
    ((@View.readAt sig (Elt Ideal) (Proc.kind (Proc.tc (τ := τ))) Space.vmem S512x2048 .bf16 (ms0_0 t).view (Rect.unit (s := S512x2048) ![0, 0] ![512, 2048] inb).toLoadRect ((hs0_0 t).unread (iblk m c 0 t)) : Vec Ideal S512x2048 .bf16) (ix2 p d) : EReal)
     = Y (A0 m c) (512 * (grid0.coords t 0).val + p) (d.val) := by
  have h0 := c0_lt t
  have h1 := c1_lt t
  rw [Y, dif_pos ⟨by omega, by omega⟩]
  refine ((hs0_0 t).readAt_unread _ _ _).trans ((congrArg (iblk m c 0 t) (unit0 (s := S512x2048) ![0, 0] (by decide) _ _)).trans ?_)
  blk_simp [iblk]
  rw [V_main_arg0]
  refine congrArg _ ?_
  blk_ext [e0]

theorem ld7 (c : Dev nD) (t : Fin cfg0.N) (inb : ∀ a, (![0, 0] : Fin 2 → ℕ) a + (![2048, 1024] : Fin 2 → ℕ) a ≤ S2048x1024.size a) (p : Fin 2048) (d : Fin 1024) :
    ((@View.readAt sig (Elt Ideal) (Proc.kind (Proc.tc (τ := τ))) Space.vmem S2048x1024 .bf16 (ms0_7 t).view (Rect.unit (s := S2048x1024) ![0, 0] ![2048, 1024] inb).toLoadRect ((hs0_7 t).unread (iblk m c 7 t)) : Vec Ideal S2048x1024 .bf16) (ix2 p d) : EReal)
     = W (A4 m c) (p.val) (1024 * (grid0.coords t 1).val + d) := by
  have h0 := c0_lt t
  have h1 := c1_lt t
  rw [W, dif_pos ⟨by omega, by omega⟩]
  refine ((hs0_7 t).readAt_unread _ _ _).trans ((congrArg (iblk m c 7 t) (unit0 (s := S2048x1024) ![0, 0] (by decide) _ _)).trans ?_)
  blk_simp [iblk]
  rw [V_main_arg4]
  refine congrArg _ ?_
  blk_ext [e7]

theorem ld8 (c : Dev nD) (t : Fin cfg0.N) (inb : ∀ a, (![0, 0] : Fin 2 → ℕ) a + (![2048, 1024] : Fin 2 → ℕ) a ≤ S2048x1024.size a) (p : Fin 2048) (d : Fin 1024) :
    ((@View.readAt sig (Elt Ideal) (Proc.kind (Proc.tc (τ := τ))) Space.vmem S2048x1024 .bf16 (ms0_8 t).view (Rect.unit (s := S2048x1024) ![0, 0] ![2048, 1024] inb).toLoadRect ((hs0_8 t).unread (iblk m c 8 t)) : Vec Ideal S2048x1024 .bf16) (ix2 p d) : EReal)
     = W (A5 m c) (p.val) (1024 * (grid0.coords t 1).val + d) := by
  have h0 := c0_lt t
  have h1 := c1_lt t
  rw [W, dif_pos ⟨by omega, by omega⟩]
  refine ((hs0_8 t).readAt_unread _ _ _).trans ((congrArg (iblk m c 8 t) (unit0 (s := S2048x1024) ![0, 0] (by decide) _ _)).trans ?_)
  blk_simp [iblk]
  rw [V_main_arg5]
  refine congrArg _ ?_
  blk_ext [e8]

theorem ld9 (c : Dev nD) (t : Fin cfg0.N) (inb : ∀ a, (![0, 0] : Fin 2 → ℕ) a + (![512, 1024] : Fin 2 → ℕ) a ≤ S512x1024.size a) (p : Fin 512) (d : Fin 1024) :
    ((@View.readAt sig (Elt Ideal) (Proc.kind (Proc.tc (τ := τ))) Space.vmem S512x1024 .bf16 (ms0_9 t).view (Rect.unit (s := S512x1024) ![0, 0] ![512, 1024] inb).toLoadRect ((hs0_9 t).unread (iblk m c 9 t)) : Vec Ideal S512x1024 .bf16) (ix2 p d) : EReal)
     = X (A1 m c) (512 * (grid0.coords t 0).val + p) (7168 + 1024 * (grid0.coords t 1).val + d) := by
  have h0 := c0_lt t
  have h1 := c1_lt t
  rw [X, dif_pos ⟨by omega, by omega⟩]
  refine ((hs0_9 t).readAt_unread _ _ _).trans ((congrArg (iblk m c 9 t) (unit0 (s := S512x1024) ![0, 0] (by decide) _ _)).trans ?_)
  blk_simp [iblk]
  rw [V_main_arg1]
  refine congrArg _ ?_
  blk_ext [e9]

theorem ld10 (c : Dev nD) (t : Fin cfg0.N) (inb : ∀ a, (![0, 0] : Fin 2 → ℕ) a + (![512, 1024] : Fin 2 → ℕ) a ≤ S512x1024.size a) (p : Fin 512) (d : Fin 1024) :
    ((@View.readAt sig (Elt Ideal) (Proc.kind (Proc.tc (τ := τ))) Space.vmem S512x1024 .bf16 (ms0_10 t).view (Rect.unit (s := S512x1024) ![0, 0] ![512, 1024] inb).toLoadRect ((hs0_10 t).unread (iblk m c 10 t)) : Vec Ideal S512x1024 .bf16) (ix2 p d) : EReal)
     = X (A1 m c) (512 * (grid0.coords t 0).val + p) (11264 + 1024 * (grid0.coords t 1).val + d) := by
  have h0 := c0_lt t
  have h1 := c1_lt t
  rw [X, dif_pos ⟨by omega, by omega⟩]
  refine ((hs0_10 t).readAt_unread _ _ _).trans ((congrArg (iblk m c 10 t) (unit0 (s := S512x1024) ![0, 0] (by decide) _ _)).trans ?_)
  blk_simp [iblk]
  rw [V_main_arg1]
  refine congrArg _ ?_
  blk_ext [e10]

end Cert.MergeIdeal.Hand
-- ==== Proof.MergeRef.lean ====
module
public import proofs.«01_k».proof.Proof.MergeLoads
public import proofs.«01_k».proof.Proof.Gen.MergeRefIdeal.Run
public import proofs.«01_k».proof.Proof.Gen.MergeRefIdeal.Read
@[expose] public section
noncomputable section
namespace Cert.MergeIdeal.Hand
open Cert.MergeIdeal Cert.MergeIdeal.Gen Idealize.ShloMosaic

/-- The call's result at row `r`, column `k`. -/
def G (a0 : S16384x2048.Idx → EReal) (a1 : S16384x15360.Idx → EReal) (a2 : S8x128x128.Idx → EReal) (a3 : S8x128.Idx → EReal)
    (a4 a5 : S2048x4096.Idx → EReal) (r k : ℕ) : EReal :=
  Ideal.logistic (X a1 r (7168 + k)) * ∑ x : Fin 2048, Y a0 r x * W a4 x k +
    Ideal.logistic (X a1 r (11264 + k)) * ∑ x : Fin 2048, SG a1 a2 a3 (r / 128) (r % 128) (x / 256) x * W a5 x k

end Cert.MergeIdeal.Hand

namespace Cert.MergeRefIdeal.Hand
open Cert.MergeRefIdeal Cert.MergeRefIdeal.Gen Cert.MergeRefIdeal.Read Idealize.ShloMosaic Idealize.ShloMosaic.TcCoe Idealize.SL.Sem
open Cert.MergeIdeal.Hand (X Wt Bs gelu SG Y W G)

variable (a0 : S16384x2048.Idx → EReal) (a1 : S16384x15360.Idx → EReal) (a2 : S8x128x128.Idx → EReal) (a3 : S8x128.Idx → EReal)
  (a4 a5 : S2048x4096.Idx → EReal)

theorem X_eq (r : Fin 16384) (j : ℕ) (h : j < 15360) : a1 (ix2 r ⟨j, h⟩) = X a1 r j := by
  rw [X, dif_pos ⟨r.isLt, h⟩]
theorem Y_eq (r : Fin 16384) (j : Fin 2048) : a0 (ix2 r j) = Y a0 r j := by
  rw [Y, dif_pos ⟨r.isLt, j.isLt⟩]
theorem W_eq (r : Fin 2048) (j : Fin 4096) : a4 (ix2 r j) = W a4 r j := by
  rw [W, dif_pos ⟨r.isLt, j.isLt⟩]
theorem Wt_eq (g : Fin 8) (p q : Fin 128) : a2 (ix3 g p q) = Wt a2 g p q := by
  rw [Wt, dif_pos ⟨g.isLt, p.isLt, q.isLt⟩]
theorem Bs_eq (g : Fin 8) (p : Fin 128) : a3 (ix2 g p) = Bs a3 g p := by
  rw [Bs, dif_pos ⟨g.isLt, p.isLt⟩]

/-- The gating half after gelu. -/
theorem v14_eq (r : Fin 16384) (k : Fin 2048) : val_main_v14 (F := Ideal) a1 (ix2 r k) = gelu (X a1 r (3072 + k)) := by
  rw [X, dif_pos ⟨r.isLt, by omega⟩]
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  simp only [gelu, mul_assoc]

/-- The gated columns, by chunk, row, group and column of the group. -/
theorem v18_eq (c p : Fin 128) (g : Fin 8) (d : Fin 256) : val_main_v18 (F := Ideal) a1 (ix4 c p g d) = X a1 (128 * c + p) (5120 + (256 * g + d)) := by
  rw [X, dif_pos ⟨by omega, by omega⟩]
  pointwise [val_main_v18, val_main_v15, val_main_v0]
  congr 2 <;> exact Fin.ext (by simp only []; omega)

/-- The mixed values. -/
theorem v24_eq (c p : Fin 128) (g : Fin 8) (d : Fin 256) : val_main_v24 (F := Ideal) a1 a2 a3 (ix4 c p g d)
    = ∑ q : Fin 128, Wt a2 g p q * X a1 (128 * c + q) (5120 + (256 * g + d)) + Bs a3 g p := by
  rw [val_main_v24_apply, val_main_v20_apply, val_main_v19_apply, val_main_v23_apply, val_main_v22_apply, val_main_v21_apply]
  refine congrArg₂ (fun x y : EReal => x + y) (Finset.sum_congr rfl fun q _ => ?_) ?_
  · rw [← Wt_eq, ← v18_eq, mul_comm]
    refine congrArg₂ (fun x y : EReal => x * y) (congrArg a2 ?_) (congrArg (val_main_v18 (F := Ideal) a1) ?_)
    · funext a; fin_cases a <;> rfl
    · funext a; fin_cases a <;> rfl
  · rw [← Bs_eq]
    refine congrArg a3 ?_
    funext a; fin_cases a <;> rfl

/-- A row's gated value. -/
theorem v26_eq (r : Fin 16384) (k : Fin 2048) : val_main_v14 (F := Ideal) a1 (ix2 r k) * val_main_v25 (F := Ideal) a1 a2 a3 (ix2 r k)
    = SG a1 a2 a3 (r / 128) (r % 128) (k / 256) k := by
  have h : val_main_v25 (F := Ideal) a1 a2 a3 (ix2 r k)
      = val_main_v24 (F := Ideal) a1 a2 a3 (ix4 ⟨r / 128, by omega⟩ ⟨r % 128, by omega⟩ ⟨k / 256, by omega⟩ ⟨k % 256, by omega⟩) := by
    pointwise [val_main_v25]
  rw [h, v14_eq, v24_eq, SG]
  dsimp only
  rw [show 128 * (r.val / 128) + r.val % 128 = r.val by omega, show 256 * (k.val / 256) + k.val % 256 = k.val by omega]

/-- The reference's term is `G`. -/
theorem v47_eq (r : Fin 16384) (k : Fin 4096) : val_main_v47 (F := Ideal) a0 a1 a2 a3 a4 a5 (ix2 r k) = G a0 a1 a2 a3 a4 a5 r k := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v17, val_main_v16, val_main_v0, val_main_cst_3, val_main_cst_4, val_main_cst_5, val_main_cst_6]
  unfold G Ideal.logistic
  refine congrArg₂ (fun x y : EReal => x + y)
    (congrArg₂ (fun x y : EReal => x * y) (congrArg (fun z : EReal => Ideal.div 1 (1 + Ideal.exp (-z))) (X_eq a1 r _ _))
      (Finset.sum_congr rfl fun x _ => congrArg₂ (fun x y : EReal => x * y) (Y_eq a0 r x) (W_eq a4 x k)))
    (congrArg₂ (fun x y : EReal => x * y) (congrArg (fun z : EReal => Ideal.div 1 (1 + Ideal.exp (-z))) (X_eq a1 r _ _))
      (Finset.sum_congr rfl fun x _ => congrArg₂ (fun x y : EReal => x * y) (v26_eq a1 a2 a3 r x) (W_eq a5 x k)))

theorem ref_eq : val_main_v47 (F := Ideal) a0 a1 a2 a3 a4 a5 = fun i => G a0 a1 a2 a3 a4 a5 (i 0) (i 1) := by
  funext i
  obtain ⟨r, k, rfl⟩ : ∃ (r : Fin 16384) (k : Fin 4096), i = ix2 r k := ⟨i 0, i 1, by funext a; fin_cases a <;> rfl⟩
  exact v47_eq _ _ _ _ _ _ r k

end Cert.MergeRefIdeal.Hand
-- ==== Proof.MergeScratch.lean ====
module
public import proofs.«01_k».proof.Proof.MergeLoads
@[expose] public section
noncomputable section
namespace Cert.MergeIdeal.Hand
open Cert.MergeIdeal Cert.MergeIdeal.Gen Idealize.ShloMosaic Idealize.ShloMosaic.TcCoe Idealize.SL.Sem
set_option pp.proofs false
variable (m : (ℓ : Loc nD τ sig) → Buf (Elt Ideal) ℓ)

/-- The gated values of a step's rows. -/
def scrOf (c : Dev nD) (n : ℕ) (y : S512x2048.Idx) : EReal :=
  SG (A1 m c) (A2 m c) (A3 m c) (4 * n + (y 0).val / 128) ((y 0).val % 128) ((y 1).val / 256) (y 1).val

/-- A tile's value is the gated value at its place. -/
theorem sg_at (c : Dev nD) (n o0 o1 b1 b2 g : ℕ) (r : Fin 128) (k : Fin 256) (y : S512x2048.Idx) (h0 : (y 0).val = o0 + r) (h1 : (y 1).val = o1 + k)
    (ho : o0 % 128 = 0) (ho1 : o1 = 256 * g) (hb1 : b1 = 3072 + 256 * g) (hb2 : b2 = 5120 + 256 * g) :
    X (A1 m c) (512 * n + o0 + r) (b1 + k) *
        (Ideal.ofBits FTy.f32 1056964608#32 *
          (1 +
            Ideal.tanh
              (Ideal.ofBits FTy.f32 1061962282#32 *
                (X (A1 m c) (512 * n + o0 + r) (b1 + k) +
                  Ideal.ofBits FTy.f32 1027024659#32 *
                    (X (A1 m c) (512 * n + o0 + r) (b1 + k) *
                      (X (A1 m c) (512 * n + o0 + r) (b1 + k) *
                        X (A1 m c) (512 * n + o0 + r) (b1 + k))))))) *
      (∑ x : Fin 128, Wt (A2 m c) g r x * X (A1 m c) (512 * n + o0 + x) (b2 + k) +
        Bs (A3 m c) g r) = scrOf m c n y := by
  have hr := r.isLt
  have hk := k.isLt
  subst ho1
  rw [scrOf, SG, h0, h1, gelu, show (o0 + r.val) / 128 = o0 / 128 by omega, show (o0 + r.val) % 128 = r.val by omega, show (256 * g + k.val) / 256 = g by omega,
    show 128 * (4 * n + o0 / 128) = 512 * n + o0 by omega, show 3072 + (256 * g + k.val) = b1 + k.val by omega, show 5120 + (256 * g + k.val) = b2 + k.val by omega]

theorem emb0 (o0 o1 : ℕ) (inb : ∀ a, (![o0, o1] : Fin 2 → ℕ) a + (![128, 256] : Fin 2 → ℕ) a ≤ S512x2048.size a) (r : Fin 128) (k : Fin 256) :
    ((((Rect.unit (s := S512x2048) ![o0, o1] ![128, 256] inb).emb (ix2 r k)) 0 : Fin _) : ℕ) = o0 + r.val := by
  show o0 + 1 * r.val = _
  omega
theorem emb1 (o0 o1 : ℕ) (inb : ∀ a, (![o0, o1] : Fin 2 → ℕ) a + (![128, 256] : Fin 2 → ℕ) a ≤ S512x2048.size a) (r : Fin 128) (k : Fin 256) :
    ((((Rect.unit (s := S512x2048) ![o0, o1] ![128, 256] inb).emb (ix2 r k)) 1 : Fin _) : ℕ) = o1 + k.val := by
  show o1 + 1 * k.val = _
  omega

set_option maxHeartbeats 4000000 in
/-- The pieces a first step stores, read back, are the gated values. -/
theorem scr_canon (c : Dev nD) (t : Fin cfg0.N) (y : S512x2048.Idx)
   (hcov : ∃ p ∈ kernelRun0_A.sl.HS0_32 (F := Ideal) c (ms0_1 t) (hs0_1 t) (ms0_2 t) (hs0_2 t) (ms0_3 t) (hs0_3 t) (ms0_4 t) (hs0_4 t) (ms0_5 t) (hs0_5 t) (ms0_6 t) (hs0_6 t) (iblk m c 1 t) (iblk m c 2 t) (iblk m c 3 t) (iblk m c 4 t) (iblk m c 5 t) (iblk m c 6 t), y ∈ p.1.set) :
   View.canon (kernelRun0_A.sl.HS0_32 (F := Ideal) c (ms0_1 t) (hs0_1 t) (ms0_2 t) (hs0_2 t) (ms0_3 t) (hs0_3 t) (ms0_4 t) (hs0_4 t) (ms0_5 t) (hs0_5 t) (ms0_6 t) (hs0_6 t) (iblk m c 1 t) (iblk m c 2 t) (iblk m c 3 t) (iblk m c 4 t) (iblk m c 5 t) (iblk m c 6 t)) y = scrOf m c (grid0.coords t 0).val y := by
  refine View.canon_apply_of_pieces (scrOf m c (grid0.coords t 0).val) _ ?_ y hcov
  clear hcov
  unfold kernelRun0_A.sl.HS0_32
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_47 kernelRun0_A.sl.r_48 kernelRun0_A.sl.r_52 kernelRun0_A.sl.cst_89
    unfold_payloads
    pointwise
    simp only [ld1, ld2, ld3, ld4, ld5, ld6, ld1', ld2', ld3', ld4', ld5', ld6']
    exact sg_at m c _ 384 1792 (4096 + 768) (6144 + 768) 7 r k _ (emb0 384 1792 _ r k) (emb1 384 1792 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_47 kernelRun0_A.sl.r_48
    unfold_payloads
    pointwise
    simp only [ld1, ld2, ld3, ld4, ld5, ld6, ld1', ld2', ld3', ld4', ld5', ld6']
    exact sg_at m c _ 256 1792 (4096 + 768) (6144 + 768) 7 r k _ (emb0 256 1792 _ r k) (emb1 256 1792 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_49 kernelRun0_A.sl.r_50 kernelRun0_A.sl.r_51
    try unfold kernelRun0_A.sl.r_47
    try unfold kernelRun0_A.sl.r_48
    unfold_payloads
    pointwise
    simp only [ld1, ld2, ld3, ld4, ld5, ld6, ld1', ld2', ld3', ld4', ld5', ld6']
    exact sg_at m c _ 128 1792 (4096 + 768) (6144 + 768) 7 r k _ (emb0 128 1792 _ r k) (emb1 128 1792 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    try unfold kernelRun0_A.sl.r_47
    try unfold kernelRun0_A.sl.r_48
    unfold_payloads
    pointwise
    simp only [ld1, ld2, ld3, ld4, ld5, ld6, ld1', ld2', ld3', ld4', ld5', ld6']
    exact sg_at m c _ 0 1792 (4096 + 768) (6144 + 768) 7 r k _ (emb0 0 1792 _ r k) (emb1 0 1792 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_39 kernelRun0_A.sl.r_40
    unfold_payloads
    pointwise
    simp only [ld1, ld2, ld3, ld4, ld5, ld6, ld1', ld2', ld3', ld4', ld5', ld6']
    exact sg_at m c _ 384 1536 (4096 + 512) (6144 + 512) 6 r k _ (emb0 384 1536 _ r k) (emb1 384 1536 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_44 kernelRun0_A.sl.r_45 kernelRun0_A.sl.r_46 kernelRun0_A.sl.cst_35
    try unfold kernelRun0_A.sl.r_39
    try unfold kernelRun0_A.sl.r_40
    unfold_payloads
    pointwise
    simp only [ld1, ld2, ld3, ld4, ld5, ld6, ld1', ld2', ld3', ld4', ld5', ld6']
    exact sg_at m c _ 256 1536 (4096 + 512) (6144 + 512) 6 r k _ (emb0 256 1536 _ r k) (emb1 256 1536 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_39 kernelRun0_A.sl.r_40
    unfold_payloads
    pointwise
    simp only [ld1, ld2, ld3, ld4, ld5, ld6, ld1', ld2', ld3', ld4', ld5', ld6']
    exact sg_at m c _ 128 1536 (4096 + 512) (6144 + 512) 6 r k _ (emb0 128 1536 _ r k) (emb1 128 1536 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_41 kernelRun0_A.sl.r_42 kernelRun0_A.sl.r_43
    try unfold kernelRun0_A.sl.r_39
    try unfold kernelRun0_A.sl.r_40
    unfold_payloads
    pointwise
    simp only [ld1, ld2, ld3, ld4, ld5, ld6, ld1', ld2', ld3', ld4', ld5', ld6']
    exact sg_at m c _ 0 1536 (4096 + 512) (6144 + 512) 6 r k _ (emb0 0 1536 _ r k) (emb1 0 1536 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_36 kernelRun0_A.sl.r_37 kernelRun0_A.sl.r_38
    try unfold kernelRun0_A.sl.r_31
    try unfold kernelRun0_A.sl.r_32
    unfold_payloads
    pointwise
    simp only [ld1, ld2, ld3, ld4, ld5, ld6, ld1', ld2', ld3', ld4', ld5', ld6']
    exact sg_at m c _ 384 1280 (4096 + 256) (6144 + 256) 5 r k _ (emb0 384 1280 _ r k) (emb1 384 1280 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_31 kernelRun0_A.sl.r_32
    unfold_payloads
    pointwise
    simp only [ld1, ld2, ld3, ld4, ld5, ld6, ld1', ld2', ld3', ld4', ld5', ld6']
    exact sg_at m c _ 256 1280 (4096 + 256) (6144 + 256) 5 r k _ (emb0 256 1280 _ r k) (emb1 256 1280 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_33 kernelRun0_A.sl.r_34 kernelRun0_A.sl.r_35
    try unfold kernelRun0_A.sl.r_31
    try unfold kernelRun0_A.sl.r_32
    unfold_payloads
    pointwise
    simp only [ld1, ld2, ld3, ld4, ld5, ld6, ld1', ld2', ld3', ld4', ld5', ld6']
    exact sg_at m c _ 128 1280 (4096 + 256) (6144 + 256) 5 r k _ (emb0 128 1280 _ r k) (emb1 128 1280 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_31 kernelRun0_A.sl.r_32
    unfold_payloads
    pointwise
    simp only [ld1, ld2, ld3, ld4, ld5, ld6, ld1', ld2', ld3', ld4', ld5', ld6']
    exact sg_at m c _ 0 1280 (4096 + 256) (6144 + 256) 5 r k _ (emb0 0 1280 _ r k) (emb1 0 1280 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_25 kernelRun0_A.sl.r_26
    unfold_payloads
    pointwise
    simp only [ld1, ld2, ld3, ld4, ld5, ld6, ld1', ld2', ld3', ld4', ld5', ld6']
    exact sg_at m c _ 384 1024 (4096 + 0) (6144 + 0) 4 r k _ (emb0 384 1024 _ r k) (emb1 384 1024 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_28 kernelRun0_A.sl.r_29 kernelRun0_A.sl.r_30 kernelRun0_A.sl.cst_235
    try unfold kernelRun0_A.sl.r_25
    try unfold kernelRun0_A.sl.r_26
    unfold_payloads
    pointwise
    simp only [ld1, ld2, ld3, ld4, ld5, ld6, ld1', ld2', ld3', ld4', ld5', ld6']
    exact sg_at m c _ 256 1024 (4096 + 0) (6144 + 0) 4 r k _ (emb0 256 1024 _ r k) (emb1 256 1024 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_25 kernelRun0_A.sl.r_26
    unfold_payloads
    pointwise
    simp only [ld1, ld2, ld3, ld4, ld5, ld6, ld1', ld2', ld3', ld4', ld5', ld6']
    exact sg_at m c _ 128 1024 (4096 + 0) (6144 + 0) 4 r k _ (emb0 128 1024 _ r k) (emb1 128 1024 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_27
    try unfold kernelRun0_A.sl.r_25
    try unfold kernelRun0_A.sl.r_26
    unfold_payloads
    pointwise
    simp only [ld1, ld2, ld3, ld4, ld5, ld6, ld1', ld2', ld3', ld4', ld5', ld6']
    exact sg_at m c _ 0 1024 (4096 + 0) (6144 + 0) 4 r k _ (emb0 0 1024 _ r k) (emb1 0 1024 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_22 kernelRun0_A.sl.r_23 kernelRun0_A.sl.r_24
    try unfold kernelRun0_A.sl.r_18
    try unfold kernelRun0_A.sl.r_19
    unfold_payloads
    pointwise
    simp only [ld1, ld2, ld3, ld4, ld5, ld6, ld1', ld2', ld3', ld4', ld5', ld6']
    exact sg_at m c _ 384 768 (3072 + 768) (5120 + 768) 3 r k _ (emb0 384 768 _ r k) (emb1 384 768 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_18 kernelRun0_A.sl.r_19
    unfold_payloads
    pointwise
    simp only [ld1, ld2, ld3, ld4, ld5, ld6, ld1', ld2', ld3', ld4', ld5', ld6']
    exact sg_at m c _ 256 768 (3072 + 768) (5120 + 768) 3 r k _ (emb0 256 768 _ r k) (emb1 256 768 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_21
    try unfold kernelRun0_A.sl.r_18
    try unfold kernelRun0_A.sl.r_19
    unfold_payloads
    pointwise
    simp only [ld1, ld2, ld3, ld4, ld5, ld6, ld1', ld2', ld3', ld4', ld5', ld6']
    exact sg_at m c _ 128 768 (3072 + 768) (5120 + 768) 3 r k _ (emb0 128 768 _ r k) (emb1 128 768 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_20
    try unfold kernelRun0_A.sl.r_18
    try unfold kernelRun0_A.sl.r_19
    unfold_payloads
    pointwise
    simp only [ld1, ld2, ld3, ld4, ld5, ld6, ld1', ld2', ld3', ld4', ld5', ld6']
    exact sg_at m c _ 0 768 (3072 + 768) (5120 + 768) 3 r k _ (emb0 0 768 _ r k) (emb1 0 768 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_13 kernelRun0_A.sl.r_14
    try unfold kernelRun0_A.sl.r_16
    try unfold kernelRun0_A.sl.r_15
    unfold_payloads
    pointwise
    simp only [ld1, ld2, ld3, ld4, ld5, ld6, ld1', ld2', ld3', ld4', ld5', ld6']
    exact sg_at m c _ 384 512 (3072 + 512) (5120 + 512) 2 r k _ (emb0 384 512 _ r k) (emb1 384 512 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_17
    try unfold kernelRun0_A.sl.r_13
    try unfold kernelRun0_A.sl.r_14
    try unfold kernelRun0_A.sl.r_16
    try unfold kernelRun0_A.sl.r_15
    unfold_payloads
    pointwise
    simp only [ld1, ld2, ld3, ld4, ld5, ld6, ld1', ld2', ld3', ld4', ld5', ld6']
    exact sg_at m c _ 256 512 (3072 + 512) (5120 + 512) 2 r k _ (emb0 256 512 _ r k) (emb1 256 512 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_15 kernelRun0_A.sl.r_16
    try unfold kernelRun0_A.sl.r_13
    try unfold kernelRun0_A.sl.r_14
    unfold_payloads
    pointwise
    simp only [ld1, ld2, ld3, ld4, ld5, ld6, ld1', ld2', ld3', ld4', ld5', ld6']
    exact sg_at m c _ 128 512 (3072 + 512) (5120 + 512) 2 r k _ (emb0 128 512 _ r k) (emb1 128 512 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    try unfold kernelRun0_A.sl.r_13
    try unfold kernelRun0_A.sl.r_14
    try unfold kernelRun0_A.sl.r_16
    try unfold kernelRun0_A.sl.r_15
    unfold_payloads
    pointwise
    simp only [ld1, ld2, ld3, ld4, ld5, ld6, ld1', ld2', ld3', ld4', ld5', ld6']
    exact sg_at m c _ 0 512 (3072 + 512) (5120 + 512) 2 r k _ (emb0 0 512 _ r k) (emb1 0 512 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_11 kernelRun0_A.sl.r_12
    try unfold kernelRun0_A.sl.r_5
    try unfold kernelRun0_A.sl.r_6
    unfold_payloads
    pointwise
    simp only [ld1, ld2, ld3, ld4, ld5, ld6, ld1', ld2', ld3', ld4', ld5', ld6']
    exact sg_at m c _ 384 256 (3072 + 256) (5120 + 256) 1 r k _ (emb0 384 256 _ r k) (emb1 384 256 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_5 kernelRun0_A.sl.r_6 kernelRun0_A.sl.r_10 kernelRun0_A.sl.cst_89
    unfold_payloads
    pointwise
    simp only [ld1, ld2, ld3, ld4, ld5, ld6, ld1', ld2', ld3', ld4', ld5', ld6']
    exact sg_at m c _ 256 256 (3072 + 256) (5120 + 256) 1 r k _ (emb0 256 256 _ r k) (emb1 256 256 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_5 kernelRun0_A.sl.r_6
    unfold_payloads
    pointwise
    simp only [ld1, ld2, ld3, ld4, ld5, ld6, ld1', ld2', ld3', ld4', ld5', ld6']
    exact sg_at m c _ 128 256 (3072 + 256) (5120 + 256) 1 r k _ (emb0 128 256 _ r k) (emb1 128 256 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_7 kernelRun0_A.sl.r_8 kernelRun0_A.sl.r_9
    try unfold kernelRun0_A.sl.r_5
    try unfold kernelRun0_A.sl.r_6
    unfold_payloads
    pointwise
    simp only [ld1, ld2, ld3, ld4, ld5, ld6, ld1', ld2', ld3', ld4', ld5', ld6']
    exact sg_at m c _ 0 256 (3072 + 256) (5120 + 256) 1 r k _ (emb0 0 256 _ r k) (emb1 0 256 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r kernelRun0_A.sl.r_1
    unfold_payloads
    pointwise
    simp only [ld1, ld2, ld3, ld4, ld5, ld6, ld1', ld2', ld3', ld4', ld5', ld6']
    exact sg_at m c _ 384 0 (3072 + 0) (5120 + 0) 0 r k _ (emb0 384 0 _ r k) (emb1 384 0 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r kernelRun0_A.sl.r_1
    unfold_payloads
    pointwise
    simp only [ld1, ld2, ld3, ld4, ld5, ld6, ld1', ld2', ld3', ld4', ld5', ld6']
    exact sg_at m c _ 256 0 (3072 + 0) (5120 + 0) 0 r k _ (emb0 256 0 _ r k) (emb1 256 0 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    unfold kernelRun0_A.sl.r_2 kernelRun0_A.sl.r_3 kernelRun0_A.sl.r_4 kernelRun0_A.sl.cst_35
    try unfold kernelRun0_A.sl.r
    try unfold kernelRun0_A.sl.r_1
    unfold_payloads
    pointwise
    simp only [ld1, ld2, ld3, ld4, ld5, ld6, ld1', ld2', ld3', ld4', ld5', ld6']
    exact sg_at m c _ 128 0 (3072 + 0) (5120 + 0) 0 r k _ (emb0 128 0 _ r k) (emb1 128 0 _ r k) (by norm_num) (by norm_num) (by norm_num) (by norm_num)
  refine List.forall_mem_cons.mpr ⟨?_, ?_⟩
  · intro x
    obtain ⟨r, k, rfl⟩ : ∃ (r : Fin 128) (k : Fin 256), x = ix2 r k := ⟨x 0, x 1, by funext a; fin_cases a <;> rfl⟩
    dsimp only
    try unfold kernelRun0_A.sl.r
    try unfold kernelRun0_A.sl.r_1
    unfold_payloads
    pointwise
    simp only [ld1, ld2, ld3, ld4, ld5, ld6, ld1', ld2', ld3', ld4', ld5', ld6']
    exact sg_at m c _ 0 0 (3072 + 0) (5120 + 0) 0 r k _ (emb0 0 0 _ r k) (emb1 0 0 _ r k) (by norm_num) (by norm_num) (by norm_num) (by norm_num)
  exact fun p hp => absurd hp List.not_mem_nil
end Cert.MergeIdeal.Hand
-- ==== Proof.MergeBlocks.lean ====
module
public import proofs.«01_k».proof.Proof.MergeScratch
public import proofs.«01_k».proof.Proof.MergeRef
@[expose] public section
noncomputable section
namespace Cert.MergeIdeal.Hand
open Cert.MergeIdeal Cert.MergeIdeal.Gen Idealize.ShloMosaic Idealize.ShloMosaic.TcCoe Idealize.SL.Sem
set_option pp.proofs false
variable (m : (ℓ : Loc nD τ sig) → Buf (Elt Ideal) ℓ)

theorem scrOf_eq (c : Dev nD) (n : ℕ) (r : Fin 512) (x : Fin 2048) : scrOf m c n (ix2 r x)
    = SG (A1 m c) (A2 m c) (A3 m c) ((512 * n + r) / 128) ((512 * n + r) % 128) (x / 256) x := by
  show SG (A1 m c) (A2 m c) (A3 m c) (4 * n + r.val / 128) (r.val % 128) (x.val / 256) x.val = _
  rw [show (512 * n + r.val) / 128 = 4 * n + r.val / 128 by omega, show (512 * n + r.val) % 128 = r.val % 128 by omega]

/-- The first step of a row block leaves its gated values in the scratch. -/
theorem scA (c : Dev nD) (t : Fin cfg0.N) (h0 : t.val % 4 = 0) : (outsAt0 m c t.val t.isLt).2 = scrOf m c (t.val / 4) := by
  rw [outsAt0_A m c t h0]
  dsimp only
  unfold sout0_A_0
  have hcov := scover0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
  rw [View.read_writes_eq_canon _ _ _ hcov]
  unfold kernelRun0_A at hcov ⊢
  dsimp only at hcov ⊢
  funext y
  have e := scr_canon m c t y (hcov y)
  rw [coord0] at e
  exact e

/-- Every step of a row block finds the block's gated values in the scratch. -/
theorem scAll (c : Dev nD) : ∀ (n : ℕ) (hn : n < cfg0.N), (outsAt0 m c n hn).2 = scrOf m c (n / 4)
  | 0, hn => scA m c ⟨0, hn⟩ rfl
  | n + 1, hn => by
    by_cases h0 : (n + 1) % 4 = 0
    · exact scA m c ⟨n + 1, hn⟩ h0
    · have e := outsAt0_B m c ⟨n + 1, hn⟩ h0
      have ih := scAll c n (Nat.lt_of_succ_lt hn)
      rw [show (n + 1) / 4 = n / 4 by omega, ← ih]
      have e2 := congrArg Prod.snd e
      dsimp only [Nat.add_sub_cancel] at e2
      unfold sout0_B_0 at e2
      exact e2

/-- The scratch just written, read back. -/
theorem v6_eq (c : Dev nD) (t : Fin cfg0.N) (h0 : t.val % 4 = 0) (r : Fin 512) (x : Fin 2048) :
    (kernelRun0_A.sl.v6 (F := Ideal) c (ms0_1 t) (hs0_1 t) (ms0_2 t) (hs0_2 t) (ms0_3 t) (hs0_3 t) (ms0_4 t) (hs0_4 t) (ms0_5 t) (hs0_5 t) (ms0_6 t) (hs0_6 t) scM0_0 (iblk m c 1 t) (iblk m c 2 t) (iblk m c 3 t) (iblk m c 4 t) (iblk m c 5 t) (iblk m c 6 t) : Vec Ideal S512x2048 .bf16) (ix2 r x) = scrOf m c (grid0.coords t 0).val (ix2 r x) := by
  have hcov := scover0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
  unfold kernelRun0_A at hcov
  dsimp only at hcov
  unfold kernelRun0_A.sl.v6
  rw [View.readCov_eq_canon']
  exact (congrArg (View.canon (kernelRun0_A.sl.HS0_32 (F := Ideal) c (ms0_1 t) (hs0_1 t) (ms0_2 t) (hs0_2 t) (ms0_3 t) (hs0_3 t) (ms0_4 t) (hs0_4 t) (ms0_5 t) (hs0_5 t) (ms0_6 t) (hs0_6 t) (iblk m c 1 t) (iblk m c 2 t) (iblk m c 3 t) (iblk m c 4 t) (iblk m c 5 t) (iblk m c 6 t))) (unit0 (s := S512x2048) ![0, 0] (by decide) _ (ix2 r x))).trans (scr_canon m c t _ (hcov _))

/-- A grid point's block of `G`. -/
def blockOf (c : Dev nD) (t : Fin cfg0.N) (y : S512x1024.Idx) : EReal :=
  G (A0 m c) (A1 m c) (A2 m c) (A3 m c) (A4 m c) (A5 m c) (512 * (grid0.coords t 0).val + (y 0).val) (1024 * (grid0.coords t 1).val + (y 1).val)

theorem blkA (c : Dev nD) (t : Fin cfg0.N) (ht : t.val % 4 = 0) : (outsAt0 m c t.val t.isLt).1 = blockOf m c t := by
  rw [outsAt0_A m c t ht]
  dsimp only
  unfold out0_A_11
  have hcov := cover0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr ht) (iblk m c 0 t) (iblk m c 1 t) (iblk m c 2 t) (iblk m c 3 t) (iblk m c 4 t) (iblk m c 5 t) (iblk m c 6 t) (iblk m c 7 t) (iblk m c 8 t) (iblk m c 9 t) (iblk m c 10 t)
  rw [View.read_writes_eq_canon _ _ _ hcov]
  unfold kernelRun0_A at hcov ⊢
  dsimp only at hcov ⊢
  funext y
  canon_tiles x h using hcov _
  obtain ⟨r, k, rfl⟩ : ∃ (r : Fin 512) (k : Fin 1024), x = ix2 r k := ⟨x 0, x 1, by funext a; fin_cases a <;> rfl⟩
  have e0 : (y 0).val = r.val := h0
  have e1 : (y 1).val = k.val := h1
  have eb : blockOf m c t y = G (A0 m c) (A1 m c) (A2 m c) (A3 m c) (A4 m c) (A5 m c) (512 * (grid0.coords t 0).val + r) (1024 * (grid0.coords t 1).val + k) := by
    rw [blockOf, e0, e1]
  refine Eq.trans ?_ eb.symm
  clear eb hcov
  unfold_payloads
  pointwise
  unfold G
  simp only [← Nat.add_assoc]
  refine congrArg₂ (fun x y : EReal => x + y)
    (congrArg₂ (fun x y : EReal => x * y) (congrArg Ideal.logistic (ld9 m c t _ r k))
      (Finset.sum_congr rfl fun x _ => congrArg₂ (fun x y : EReal => x * y) (ld0 m c t _ r x) (ld7 m c t _ x k)))
    (congrArg₂ (fun x y : EReal => x * y) (congrArg Ideal.logistic (ld10 m c t _ r k))
      (Finset.sum_congr rfl fun x _ => congrArg₂ (fun x y : EReal => x * y) ((v6_eq m c t ht r x).trans (scrOf_eq m c _ r x)) (ld8 m c t _ x k)))

theorem blkB (c : Dev nD) (t : Fin cfg0.N) (ht : ¬t.val % 4 = 0) : (outsAt0 m c t.val t.isLt).1 = blockOf m c t := by
  have hs : (outsAt0 m c (t.val - 1) (Nat.lt_of_le_of_lt (Nat.sub_le _ _) t.isLt)).2 = scrOf m c (grid0.coords t 0).val := by
    rw [scAll, coord0, show (t.val - 1) / 4 = t.val / 4 by omega]
  rw [outsAt0_B m c t ht]
  dsimp only
  unfold out0_B_11
  have hcov := cover0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => ht ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2
  rw [View.read_writes_eq_canon _ _ _ hcov]
  unfold kernelRun0_B at hcov ⊢
  dsimp only at hcov ⊢
  funext y
  canon_tiles x h using hcov _
  obtain ⟨r, k, rfl⟩ : ∃ (r : Fin 512) (k : Fin 1024), x = ix2 r k := ⟨x 0, x 1, by funext a; fin_cases a <;> rfl⟩
  have e0 : (y 0).val = r.val := h0
  have e1 : (y 1).val = k.val := h1
  have eb : blockOf m c t y = G (A0 m c) (A1 m c) (A2 m c) (A3 m c) (A4 m c) (A5 m c) (512 * (grid0.coords t 0).val + r) (1024 * (grid0.coords t 1).val + k) := by
    rw [blockOf, e0, e1]
  refine Eq.trans ?_ eb.symm
  clear eb hcov
  unfold_payloads
  pointwise
  unfold G
  simp only [← Nat.add_assoc]
  refine congrArg₂ (fun x y : EReal => x + y)
    (congrArg₂ (fun x y : EReal => x * y) (congrArg Ideal.logistic (ld9 m c t _ r k))
      (Finset.sum_congr rfl fun x _ => congrArg₂ (fun x y : EReal => x * y) (ld0 m c t _ r x) (ld7 m c t _ x k)))
    (congrArg₂ (fun x y : EReal => x * y) (congrArg Ideal.logistic (ld10 m c t _ r k))
      (Finset.sum_congr rfl fun x _ => congrArg₂ (fun x y : EReal => x * y) (((((Memref.isWhole_whole cc0_scratch0).readAt_unread _ _ _).trans (congrArg ((outsAt0 m c (t.val - 1) (Nat.lt_of_le_of_lt (Nat.sub_le _ _) t.isLt)).2) (unit0 (s := S512x2048) ![0, 0] (by decide) _ (ix2 r x)))).trans (congrFun hs (ix2 r x))).trans (scrOf_eq m c _ r x)) (ld8 m c t _ x k)))

theorem blk (c : Dev nD) (t : Fin cfg0.N) : (outsAt0 m c t.val t.isLt).1 = blockOf m c t := by
  by_cases h0 : t.val % 4 = 0
  · exact blkA m c t h0
  · exact blkB m c t h0

/-- The result array after the run is `G` of the arguments. -/
theorem final (c : Dev nD) : (dats m 0 c).arrAt 11 cfg0.N
    = fun i : S16384x4096.Idx => G (A0 m c) (A1 m c) (A2 m c) (A3 m c) (A4 m c) (A5 m c) (i 0) (i 1) := by
  refine (dats m 0 c).arrAt_eq_of_covers 11 _ (by decide +kernel) fun t hf y => ?_
  blk_simp
  rw [after0_11, blk, blockOf]
  congr 1 <;> blk_simp [e11] <;> omega

end Cert.MergeIdeal.Hand
-- ==== Proof.Merge.lean ====
/-
  The value of the merge (hand-written). The first step of a row block stores the block's gated values in the scratch, tile by
  tile; the later steps find them there; so the result array is `G` of the arguments, as is the reference's term.
-/
module

public import proofs.«01_k».proof.Defs
public import proofs.«01_k».proof.Proof.Gen.Merge.Frame
public import proofs.«01_k».proof.Proof.MergeRef
public import proofs.«01_k».proof.Proof.MergeBlocks
public import Idealize.ShloMosaic.Lib.Quiescent

@[expose] public section
noncomputable section
namespace Cert.Proof.Merge

open Idealize.ShloMosaic Idealize.SL.Sem

theorem frame_p : Cert.quiescent_Merge (hMerge := Cert.Merge.Gen.facts) := fun m ρ _ => Cert.Merge.Gen.frame m ρ
theorem frame_pi : Cert.quiescent_MergeIdeal (hMergeIdeal := Cert.MergeIdeal.Gen.facts) :=
  fun m ρ _ => Cert.MergeIdeal.Gen.frame m ρ
theorem frame_ri : Cert.quiescent_MergeRefIdeal (hMergeRefIdeal := Cert.MergeRefIdeal.Gen.facts) := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

theorem preserves : Cert.preserves_Merge_MergeIdeal := trivial

/-- Both programs end with `G` of equal arguments. -/
theorem algebraic : Cert.algebraic_MergeIdeal_MergeRefIdeal (hMergeIdeal := Cert.MergeIdeal.Gen.facts)
    (hMergeRefIdeal := Cert.MergeRefIdeal.Gen.facts) := by
  intro m g m' g' _ hargs
  refine ⟨fun c => fun i => Cert.MergeIdeal.Hand.G (m ((c.tc : Thread _ _).loc Cert.MergeIdeal.main_arg0))
      (m ((c.tc : Thread _ _).loc Cert.MergeIdeal.main_arg1)) (m ((c.tc : Thread _ _).loc Cert.MergeIdeal.main_arg2))
      (m ((c.tc : Thread _ _).loc Cert.MergeIdeal.main_arg3)) (m ((c.tc : Thread _ _).loc Cert.MergeIdeal.main_arg4))
      (m ((c.tc : Thread _ _).loc Cert.MergeIdeal.main_arg5)) (i 0) (i 1),
    (θ_run Cert.MergeIdeal.defs _ _).mono
      (fun r h c => ⟨(h c).1.trans (Cert.MergeIdeal.Hand.final m c), (h c).2⟩) (Cert.MergeIdeal.Value.run_blocks m g), ?_⟩
  refine (θ_run Cert.MergeRefIdeal.defs _ _).mono (fun r h c => ⟨?_, (h c).2⟩) (Cert.MergeRefIdeal.Value.run (F := Ideal) m' g')
  rw [(h c).1, Cert.MergeRefIdeal.Read.val_main_v47_eq, (hargs c).1, (hargs c).2.1, (hargs c).2.2.1, (hargs c).2.2.2.1, (hargs c).2.2.2.2.1, (hargs c).2.2.2.2.2]
  exact Cert.MergeRefIdeal.Hand.ref_eq _ _ _ _ _ _

end Cert.Proof.Merge

end
-- ==== Proof.ExpUp.lean ====
/-
  The value of the experts' first products (hand-written). The kernel's result array, block by block, is silu of an expert's
  rows times its gate matrix, times the rows times its up matrix (`G`); the reference's two einsums are the same function.
-/
module

public import proofs.«01_k».proof.Defs
public import proofs.«01_k».proof.Proof.Gen.ExpUp.Frame
public import proofs.«01_k».proof.Proof.Gen.ExpUpIdeal.Value
public import proofs.«01_k».proof.Proof.Gen.ExpUpRefIdeal.Run
public import proofs.«01_k».proof.Proof.Gen.ExpUpRefIdeal.Read
public import Idealize.ShloMosaic.Lib.Pipeline.ValueKit
public import Idealize.ShloMosaic.Lib.Pointwise
public import Idealize.ShloMosaic.Lib.Quiescent

@[expose] public section
noncomputable section
namespace Cert.ExpUpIdeal.Hand
open Cert.ExpUpIdeal Cert.ExpUpIdeal.Gen Idealize.ShloMosaic Idealize.ShloMosaic.TcCoe Idealize.SL.Sem
open Idealize.ShloMosaic.Pipeline (Dat)

/-- A row of an expert times a column of one of its matrices. -/
def dotr (a : S16x4x512x4096.Idx → EReal) (w : S16x4096x2048.Idx → EReal) (i : S16x4x512x2048.Idx) : EReal :=
  ∑ k : Fin 4096, a (ix4 (i 0) (i 1) (i 2) k) * w (ix3 (i 0) k (i 3))

/-- The gated product at an index: silu of the gate's row product, times the up row product. -/
def G (a : S16x4x512x4096.Idx → EReal) (w u : S16x4096x2048.Idx → EReal) (i : S16x4x512x2048.Idx) : EReal :=
  dotr a w i * Ideal.logistic (dotr a w i) * dotr a u i

variable (m : (ℓ : Loc nD τ sig) → Buf (Elt Ideal) ℓ)

set_option maxHeartbeats 2000000 in
/-- The result array after the run is `G` of the arguments: what each grid point writes back is its block of `G`. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t hf y => ?_
  have e0 : ∀ t : Fin cfg0.N, win0_0.index t = ![(grid0.coords t 0).val, 0, 0, 0] := (by decide +kernel : ∀ t : Fin grid0.N, _)
  have e1 : ∀ t : Fin cfg0.N, win0_1.index t = ![(grid0.coords t 0).val, 0, (grid0.coords t 1).val] := (by decide +kernel : ∀ t : Fin grid0.N, _)
  have e2 : ∀ t : Fin cfg0.N, win0_2.index t = ![(grid0.coords t 0).val, 0, (grid0.coords t 1).val] := (by decide +kernel : ∀ t : Fin grid0.N, _)
  have e3 : ∀ t : Fin cfg0.N, win0_3.index t = ![(grid0.coords t 0).val, 0, 0, (grid0.coords t 1).val] := (by decide +kernel : ∀ t : Fin grid0.N, _)
  blk_simp
  rw [after0_3]
  unfold out0_3 k0_pay7 k0_pay8
  canon_tiles x h using cover0_3 ..
  all_goals unfold_payloads
  all_goals pointwise [G, dotr]
  all_goals
    blk_simp [iblk]
    rw [V_main_arg0, V_main_arg1, V_main_arg2]
    refine Ideal.mul_congr (Ideal.mul_congr (Finset.sum_congr rfl fun k _ => Ideal.mul_congr (congrArg _ ?_) (congrArg _ ?_))
        (congrArg Ideal.logistic (Finset.sum_congr rfl fun k _ => Ideal.mul_congr (congrArg _ ?_) (congrArg _ ?_))))
        (Finset.sum_congr rfl fun k _ => Ideal.mul_congr (congrArg _ ?_) (congrArg _ ?_)) <;>
      blk_ext [e0, e1, e2, e3]

/-- The reference's term is `G`. -/
theorem ref_eq (a : S16x4x512x4096.Idx → EReal) (w u : S16x4096x2048.Idx → EReal) :
    Cert.ExpUpRefIdeal.Read.val_main_v5 (F := Ideal) a w u = G a w u := by
  funext i
  pointwise [G, dotr, Ideal.logistic, Cert.ExpUpRefIdeal.Read.val_main_v5, Cert.ExpUpRefIdeal.Read.val_main_v4, Cert.ExpUpRefIdeal.Read.val_main_v3, Cert.ExpUpRefIdeal.Read.val_main_v2, Cert.ExpUpRefIdeal.Read.val_main_call0_v5, Cert.ExpUpRefIdeal.Read.val_main_call0_v4, Cert.ExpUpRefIdeal.Read.val_main_call0_v3, Cert.ExpUpRefIdeal.Read.val_main_call0_v2, Cert.ExpUpRefIdeal.Read.val_main_call0_v1, Cert.ExpUpRefIdeal.Read.val_main_call0_v0, Cert.ExpUpRefIdeal.Read.val_main_call0_cst, Cert.ExpUpRefIdeal.Read.val_main_call0_cst_0, Cert.ExpUpRefIdeal.Read.val_main_v1, Cert.ExpUpRefIdeal.Read.val_main_v0]

end Cert.ExpUpIdeal.Hand

namespace Cert.Proof.ExpUp

open Idealize.ShloMosaic Idealize.SL.Sem

theorem frame_p : Cert.quiescent_ExpUp (hExpUp := Cert.ExpUp.Gen.facts) := fun m ρ _ => Cert.ExpUp.Gen.frame m ρ
theorem frame_pi : Cert.quiescent_ExpUpIdeal (hExpUpIdeal := Cert.ExpUpIdeal.Gen.facts) :=
  fun m ρ _ => Cert.ExpUpIdeal.Gen.frame m ρ
theorem frame_ri : Cert.quiescent_ExpUpRefIdeal (hExpUpRefIdeal := Cert.ExpUpRefIdeal.Gen.facts) := fun m ρ _ =>
  (θ_run Cert.ExpUpRefIdeal.defs _ _).mono (fun r h => ⟨fun c => (h c).2,
      Idealize.ShloMosaic.sem_eq_zero_of_no_sems (by decide) r.2⟩)
    (Cert.ExpUpRefIdeal.Value.run (F := Ideal) m ρ)

theorem preserves : Cert.preserves_ExpUp_ExpUpIdeal := trivial

/-- Both programs end with `G` of equal arguments. -/
theorem algebraic : Cert.algebraic_ExpUpIdeal_ExpUpRefIdeal (hExpUpIdeal := Cert.ExpUpIdeal.Gen.facts)
    (hExpUpRefIdeal := Cert.ExpUpRefIdeal.Gen.facts) := by
  intro m g m' g' _ hargs
  refine ⟨fun c => Cert.ExpUpIdeal.Hand.G (m ((c.tc : Thread _ _).loc Cert.ExpUpIdeal.main_arg0))
      (m ((c.tc : Thread _ _).loc Cert.ExpUpIdeal.main_arg1)) (m ((c.tc : Thread _ _).loc Cert.ExpUpIdeal.main_arg2)),
    (θ_run Cert.ExpUpIdeal.defs _ _).mono
      (fun r h c => ⟨(h c).1.trans (Cert.ExpUpIdeal.Hand.final m c), (h c).2⟩) (Cert.ExpUpIdeal.Value.run_blocks m g), ?_⟩
  refine (θ_run Cert.ExpUpRefIdeal.defs _ _).mono (fun r h c => ⟨?_, (h c).2⟩) (Cert.ExpUpRefIdeal.Value.run (F := Ideal) m' g')
  rw [(h c).1, (hargs c).1, (hargs c).2.1, (hargs c).2.2, Cert.ExpUpRefIdeal.Read.val_main_v5_eq]
  exact Cert.ExpUpIdeal.Hand.ref_eq _ _ _

end Cert.Proof.ExpUp

end
-- ==== Proof.lean ====
/-
  The whole claim, put together from the proofs of its parts.
-/
module

public import proofs.«01_k».proof.Defs
public import proofs.«01_k».proof.Proof.InProj
public import proofs.«01_k».proof.Proof.ExpDown
public import proofs.«01_k».proof.Proof.Merge
public import proofs.«01_k».proof.Proof.ExpUp

@[expose] public section
noncomputable section
namespace Cert.Proof

theorem claim : Cert.Claim :=
  ⟨Cert.InProj.Gen.facts, Cert.InProjIdeal.Gen.facts, Cert.InProjRefIdeal.Gen.facts, Cert.ExpDown.Gen.facts, Cert.ExpDownIdeal.Gen.facts, Cert.ExpDownRefIdeal.Gen.facts, Cert.Merge.Gen.facts, Cert.MergeIdeal.Gen.facts, Cert.MergeRefIdeal.Gen.facts, Cert.ExpUp.Gen.facts, Cert.ExpUpIdeal.Gen.facts, Cert.ExpUpRefIdeal.Gen.facts,
   InProj.frame_p, InProj.frame_pi, InProj.frame_ri, ExpDown.frame_p, ExpDown.frame_pi, ExpDown.frame_ri, Merge.frame_p, Merge.frame_pi, Merge.frame_ri, ExpUp.frame_p, ExpUp.frame_pi, ExpUp.frame_ri,
   InProj.preserves, InProj.algebraic, ExpDown.preserves, ExpDown.algebraic, Merge.preserves, Merge.algebraic, ExpUp.preserves, ExpUp.algebraic⟩

end Cert.Proof

end
